-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "cap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S8 : Shape := ⟨1, ![8]⟩
abbrev S8x4096x256 : Shape := ⟨3, ![8, 4096, 256]⟩
abbrev S2 : Shape := ⟨1, ![2]⟩
abbrev S2x4 : Shape := ⟨2, ![2, 4]⟩
abbrev S2x1 : Shape := ⟨2, ![2, 1]⟩
abbrev S_ : Shape := ⟨0, ![]⟩
abbrev S1x128x512 : Shape := ⟨3, ![1, 128, 512]⟩
abbrev S1x4096x128 : Shape := ⟨3, ![1, 4096, 128]⟩
abbrev S512x4096 : Shape := ⟨2, ![512, 4096]⟩
abbrev S1x128x128 : Shape := ⟨3, ![1, 128, 128]⟩
abbrev S128x128 : Shape := ⟨2, ![128, 128]⟩
abbrev S512x128 : Shape := ⟨2, ![512, 128]⟩
abbrev S1x1 : Shape := ⟨2, ![1, 1]⟩
abbrev S128x1 : Shape := ⟨2, ![128, 1]⟩
abbrev S512x1 : Shape := ⟨2, ![512, 1]⟩
abbrev S512x512 : Shape := ⟨2, ![512, 512]⟩
abbrev S1x512x128 : Shape := ⟨3, ![1, 512, 128]⟩
abbrev S512 : Shape := ⟨1, ![512]⟩
abbrev S1 : Shape := ⟨1, ![1]⟩

abbrev nBuf : Space → Nat
  | .hbm => 20
  | .vmem => 9
  | .smem => 2
  | _ => 0

abbrev bufTy : (tb : Table) → Fin (tcTables nBuf tb) → BufTy
  | .hbm, ⟨0, _⟩ => ⟨S8x4096x1024, .fp8e4m3⟩
  | .hbm, ⟨1, _⟩ => ⟨S8, .f32⟩
  | .hbm, ⟨2, _⟩ => ⟨S8x4096x256, .fp8e4m3⟩
  | .hbm, ⟨3, _⟩ => ⟨S2, .f32⟩
  | .hbm, ⟨4, _⟩ => ⟨S8x4096x256, .fp8e4m3⟩
  | .hbm, ⟨5, _⟩ => ⟨S2, .f32⟩
  | .hbm, ⟨6, _⟩ => ⟨S2x4, .f32⟩
  | .hbm, ⟨7, _⟩ => ⟨S2x1, .f32⟩
  | .hbm, ⟨8, _⟩ => ⟨S2x4, .f32⟩
  | .hbm, ⟨9, _⟩ => ⟨S2x4, .f32⟩
  | .hbm, ⟨10, _⟩ => ⟨S_, .f32⟩
  | .hbm, ⟨11, _⟩ => ⟨S2x4, .f32⟩
  | .hbm, ⟨12, _⟩ => ⟨S2x4, .f32⟩
  | .hbm, ⟨13, _⟩ => ⟨S_, .f32⟩
  | .hbm, ⟨14, _⟩ => ⟨S2x4, .f32⟩
  | .hbm, ⟨15, _⟩ => ⟨S2x4, .f32⟩
  | .hbm, ⟨16, _⟩ => ⟨S_, .f32⟩
  | .hbm, ⟨17, _⟩ => ⟨S2, .f32⟩
  | .hbm, ⟨18, _⟩ => ⟨S2, .f32⟩
  | .hbm, ⟨19, _⟩ => ⟨S8x4096x1024, .bf16⟩
  | .local _ .vmem, ⟨0, _⟩ => ⟨S1x128x512, .fp8e4m3⟩
  | .local _ .vmem, ⟨1, _⟩ => ⟨S1x128x512, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x128x512, .bf16⟩
  | .local _ .vmem, ⟨7, _⟩ => ⟨S1x128x512, .bf16⟩
  | .local _ .vmem, ⟨8, _⟩ => ⟨S512x4096, .f32⟩
  | .local _ .smem, ⟨0, _⟩ => ⟨S2x4, .f32⟩
  | .local _ .smem, ⟨1, _⟩ => ⟨S2, .f32⟩
  | _, _ => ⟨S8x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 32], ![false, false, false]⟩

def k0_off1 (i : grid0.Coords) : Fin 2 → Nat :=
  let arg1 : BitVec 32 := BitVec.ofNat 32 (i 1).val
  let v9 : Index := Scalar.indexCast arg1
  let c0_8 : Index := 0#32
  ![v9.toNat, 0]
def k0_off2 (i : grid0.Coords) : Fin 2 → Nat :=
  let arg1 : BitVec 32 := BitVec.ofNat 32 (i 1).val
  let v12 : Index := Scalar.indexCast arg1
  let c1 : Index := 1#32
  ![v12.toNat, 1]
def k0_off3 (i : grid0.Coords) : Fin 2 → Nat :=
  let arg1 : BitVec 32 := BitVec.ofNat 32 (i 1).val
  let v15 : Index := Scalar.indexCast arg1
  let c2 : Index := 2#32
  ![v15.toNat, 2]
def k0_off4 (i : grid0.Coords) : Fin 2 → Nat :=
  let arg1 : BitVec 32 := BitVec.ofNat 32 (i 1).val
  let v18 : Index := Scalar.indexCast arg1
  let c3 : Index := 3#32
  ![v18.toNat, 3]
@[reducible] def k0_t1_loop (i : grid0.Coords) : Scf.Loop 32 :=
  let c0_i32_23 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v65 : BitVec 32 := Scalar.subi v42 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_25 : BitVec 32 := 1#32
  ⟨c0_i32_23, v69, c1_i32_25⟩
def k0_off5 (i : grid0.Coords) (k0_t1 : Fin (k0_t1_loop i).trips) : Fin 3 → Nat :=
  let c0_46 : Index := 0#32
  let c0_i32_23 : BitVec 32 := 0#32
  let c1_i32_25 : BitVec 32 := 1#32
  let arg10 : BitVec 32 := Scf.iv c0_i32_23 c1_i32_25 k0_t1
  let c512_i32_45 : BitVec 32 := 512#32
  let v103 : BitVec 32 := Scalar.muli arg10 c512_i32_45
  let v104 : Index := Scalar.indexCast v103
  let c0_47 : Index := 0#32
  ![0, v104.toNat, 0]
def k0_off6 (i : grid0.Coords) (k0_t1 : Fin (k0_t1_loop i).trips) : Fin 2 → Nat :=
  let c0_53 : Index := 0#32
  let c0_i32_23 : BitVec 32 := 0#32
  let c1_i32_25 : BitVec 32 := 1#32
  let arg10 : BitVec 32 := Scf.iv c0_i32_23 c1_i32_25 k0_t1
  let c512_i32_52 : BitVec 32 := 512#32
  let v120 : BitVec 32 := Scalar.muli arg10 c512_i32_52
  let v121 : Index := Scalar.indexCast v120
  ![0, v121.toNat]
@[reducible] def k0_t2_loop (i : grid0.Coords) : Scf.Loop 32 :=
  let c0_i32_23 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v65 : BitVec 32 := Scalar.subi v42 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let v66 : BitVec 32 := Scalar.addi c0_i32_23 v65
  let c1_i32_26 : BitVec 32 := 1#32
  ⟨v69, v66, c1_i32_26⟩
def k0_off7 (i : grid0.Coords) (k0_t2 : Fin (k0_t2_loop i).trips) : Fin 3 → Nat :=
  let c0_46 : Index := 0#32
  let c0_i32_23 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v65 : BitVec 32 := Scalar.subi v42 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_26 : BitVec 32 := 1#32
  let arg10 : BitVec 32 := Scf.iv v69 c1_i32_26 k0_t2
  let c512_i32_45 : BitVec 32 := 512#32
  let v103 : BitVec 32 := Scalar.muli arg10 c512_i32_45
  let v104 : Index := Scalar.indexCast v103
  let c0_47 : Index := 0#32
  ![0, v104.toNat, 0]
def k0_off8 (i : grid0.Coords) (k0_t2 : Fin (k0_t2_loop i).trips) : Fin 2 → Nat :=
  let c0_53 : Index := 0#32
  let c0_i32_23 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v65 : BitVec 32 := Scalar.subi v42 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_26 : BitVec 32 := 1#32
  let arg10 : BitVec 32 := Scf.iv v69 c1_i32_26 k0_t2
  let c512_i32_52 : BitVec 32 := 512#32
  let v120 : BitVec 32 := Scalar.muli arg10 c512_i32_52
  let v121 : Index := Scalar.indexCast v120
  ![0, v121.toNat]
@[reducible] def k0_t3_loop (i : grid0.Coords) : Scf.Loop 32 :=
  let c0_i32_29 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v75 : BitVec 32 := Scalar.subi v42 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_31 : BitVec 32 := 1#32
  ⟨c0_i32_29, v79, c1_i32_31⟩
def k0_off9 (i : grid0.Coords) (k0_t3 : Fin (k0_t3_loop i).trips) : Fin 2 → Nat :=
  let c0_46 : Index := 0#32
  let c0_i32_29 : BitVec 32 := 0#32
  let c1_i32_31 : BitVec 32 := 1#32
  let arg10 : BitVec 32 := Scf.iv c0_i32_29 c1_i32_31 k0_t3
  let c512_i32_45 : BitVec 32 := 512#32
  let v103 : BitVec 32 := Scalar.muli arg10 c512_i32_45
  let v104 : Index := Scalar.indexCast v103
  ![0, v104.toNat]
def k0_off10 (i : grid0.Coords) (k0_t3 : Fin (k0_t3_loop i).trips) : Fin 3 → Nat :=
  let c0_50 : Index := 0#32
  let c0_i32_29 : BitVec 32 := 0#32
  let c1_i32_31 : BitVec 32 := 1#32
  let arg10 : BitVec 32 := Scf.iv c0_i32_29 c1_i32_31 k0_t3
  let c512_i32_49 : BitVec 32 := 512#32
  let v112 : BitVec 32 := Scalar.muli arg10 c512_i32_49
  let v113 : Index := Scalar.indexCast v112
  let c0_51 : Index := 0#32
  ![0, v113.toNat, 0]
@[reducible] def k0_t4_loop (i : grid0.Coords) : Scf.Loop 32 :=
  let c0_i32_29 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v75 : BitVec 32 := Scalar.subi v42 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let v76 : BitVec 32 := Scalar.addi c0_i32_29 v75
  let c1_i32_32 : BitVec 32 := 1#32
  ⟨v79, v76, c1_i32_32⟩
def k0_off11 (i : grid0.Coords) (k0_t4 : Fin (k0_t4_loop i).trips) : Fin 2 → Nat :=
  let c0_46 : Index := 0#32
  let c0_i32_29 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v75 : BitVec 32 := Scalar.subi v42 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg10 : BitVec 32 := Scf.iv v79 c1_i32_32 k0_t4
  let c512_i32_45 : BitVec 32 := 512#32
  let v103 : BitVec 32 := Scalar.muli arg10 c512_i32_45
  let v104 : Index := Scalar.indexCast v103
  ![0, v104.toNat]
def k0_off12 (i : grid0.Coords) (k0_t4 : Fin (k0_t4_loop i).trips) : Fin 3 → Nat :=
  let c0_50 : Index := 0#32
  let c0_i32_29 : BitVec 32 := 0#32
  let arg2 : BitVec 32 := BitVec.ofNat 32 (i 2).val
  let c128_i32 : BitVec 32 := 128#32
  let v22 : BitVec 32 := Scalar.muli arg2 c128_i32
  let c128_i32_9 : BitVec 32 := 128#32
  let v23 : BitVec 32 := Scalar.addi v22 c128_i32_9
  let c512_i32 : BitVec 32 := 512#32
  let v24 : BitVec 32 := Scalar.addi v23 c512_i32
  let c1_i32 : BitVec 32 := 1#32
  let v25 : BitVec 32 := Scalar.subi v24 c1_i32
  let c0_i32 : BitVec 32 := 0#32
  let v27 : BitVec 1 := Scalar.cmpi .sgt v25 c0_i32
  let v28 : BitVec 32 := Scalar.extui v27
  let c0_i32_11 : BitVec 32 := 0#32
  let v29 : BitVec 1 := Scalar.cmpi .slt v25 c0_i32_11
  let v30 : BitVec 32 := Scalar.extui v29
  let v31 : BitVec 32 := Scalar.subi v28 v30
  let c512_i32_10 : BitVec 32 := 512#32
  let c0_i32_12 : BitVec 32 := 0#32
  let v32 : BitVec 1 := Scalar.cmpi .sgt c512_i32_10 c0_i32_12
  let v33 : BitVec 32 := Scalar.extui v32
  let c0_i32_13 : BitVec 32 := 0#32
  let v34 : BitVec 1 := Scalar.cmpi .slt c512_i32_10 c0_i32_13
  let v35 : BitVec 32 := Scalar.extui v34
  let v36 : BitVec 32 := Scalar.subi v33 v35
  let v37 : BitVec 1 := Scalar.cmpi .ne v31 v36
  let v38 : BitVec 32 := Scalar.remsi v25 c512_i32_10
  let c0_i32_14 : BitVec 32 := 0#32
  let v39 : BitVec 1 := Scalar.cmpi .ne v38 c0_i32_14
  let v40 : BitVec 1 := Scalar.andi v37 v39
  let v26 : BitVec 32 := Scalar.divsi v25 c512_i32_10
  let c1_i32_15 : BitVec 32 := 1#32
  let v41 : BitVec 32 := Scalar.subi v26 c1_i32_15
  let v42 : BitVec 32 := Scalar.select v40 v41 v26
  let v75 : BitVec 32 := Scalar.subi v42 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg10 : BitVec 32 := Scf.iv v79 c1_i32_32 k0_t4
  let c512_i32_49 : BitVec 32 := 512#32
  let v112 : BitVec 32 := Scalar.muli arg10 c512_i32_49
  let v113 : Index := Scalar.indexCast v112
  let c0_51 : Index := 0#32
  ![0, v113.toNat, 0]
def k0_off13 (i : grid0.Coords) : Fin 1 → Nat :=
  let arg1 : BitVec 32 := BitVec.ofNat 32 (i 1).val
  let v82 : Index := Scalar.indexCast arg1
  ![v82.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | _ => none
-- ==== ReferenceIdeal.lean ====
abbrev S8x4096x1024 : Shape := ⟨3, ![8, 4096, 1024]⟩
abbrev S8 : Shape := ⟨1, ![8]⟩
abbrev S8x4096x256 : Shape := ⟨3, ![8, 4096, 256]⟩
abbrev S2 : Shape := ⟨1, ![2]⟩
abbrev S8x4096x8x1x128 : Shape := ⟨5, ![8, 4096, 8, 1, 128]⟩
abbrev S8x8x1x4096x128 : Shape := ⟨5, ![8, 8, 1, 4096, 128]⟩
abbrev S64x4096x128 : Shape := ⟨3, ![64, 4096, 128]⟩
abbrev S1x8x1 : Shape := ⟨3, ![1, 8, 1]⟩
abbrev S8x8x1 : Shape := ⟨3, ![8, 8, 1]⟩
abbrev S64x1x1 : Shape := ⟨3, ![64, 1, 1]⟩
abbrev S8x4096x2x1x128 : Shape := ⟨5, ![8, 4096, 2, 1, 128]⟩
abbrev S8x2x1x4096x128 : Shape := ⟨5, ![8, 2, 1, 4096, 128]⟩
abbrev S8x2x4x4096x128 : Shape := ⟨5, ![8, 2, 4, 4096, 128]⟩
abbrev S1x2x1 : Shape := ⟨3, ![1, 2, 1]⟩
abbrev S8x2x4 : Shape := ⟨3, ![8, 2, 4]⟩
abbrev S64x4096x4096 : Shape := ⟨3, ![64, 4096, 4096]⟩
abbrev S1x4096x4096 : Shape := ⟨3, ![1, 4096, 4096]⟩
abbrev S64x4096 : Shape := ⟨2, ![64, 4096]⟩
abbrev S64x4096x1 : Shape := ⟨3, ![64, 4096, 1]⟩
abbrev S8x8x4096x128 : Shape := ⟨4, ![8, 8, 4096, 128]⟩
abbrev S8x4096x8x128 : Shape := ⟨4, ![8, 4096, 8, 128]⟩

abbrev nBuf : Space → Nat
  | .hbm => 30
  | .vmem => 7
  | .smem => 0
  | _ => 0

abbrev bufTy : (tb : Table) → Fin (tcTables nBuf tb) → BufTy
  | .hbm, ⟨0, _⟩ => ⟨S8x4096x1024, .fp8e4m3⟩
  | .hbm, ⟨1, _⟩ => ⟨S8, .f32⟩
  | .hbm, ⟨2, _⟩ => ⟨S8x4096x256, .fp8e4m3⟩
  | .hbm, ⟨3, _⟩ => ⟨S2, .f32⟩
  | .hbm, ⟨4, _⟩ => ⟨S8x4096x256, .fp8e4m3⟩
  | .hbm, ⟨5, _⟩ => ⟨S2, .f32⟩
  | .hbm, ⟨6, _⟩ => ⟨S8x4096x8x1x128, .fp8e4m3⟩
  | .hbm, ⟨7, _⟩ => ⟨S8x8x1x4096x128, .fp8e4m3⟩
  | .hbm, ⟨8, _⟩ => ⟨S64x4096x128, .fp8e4m3⟩
  | .hbm, ⟨9, _⟩ => ⟨S1x8x1, .f32⟩
  | .hbm, ⟨10, _⟩ => ⟨S8x8x1, .f32⟩
  | .hbm, ⟨11, _⟩ => ⟨S64x1x1, .f32⟩
  | .hbm, ⟨12, _⟩ => ⟨S8x4096x2x1x128, .fp8e4m3⟩
  | .hbm, ⟨13, _⟩ => ⟨S8x2x1x4096x128, .fp8e4m3⟩
  | .hbm, ⟨14, _⟩ => ⟨S8x2x4x4096x128, .fp8e4m3⟩
  | .hbm, ⟨15, _⟩ => ⟨S64x4096x128, .fp8e4m3⟩
  | .hbm, ⟨16, _⟩ => ⟨S1x2x1, .f32⟩
  | .hbm, ⟨17, _⟩ => ⟨S8x2x4, .f32⟩
  | .hbm, ⟨18, _⟩ => ⟨S64x1x1, .f32⟩
  | .hbm, ⟨19, _⟩ => ⟨S8x4096x2x1x128, .fp8e4m3⟩
  | .hbm, ⟨20, _⟩ => ⟨S8x2x1x4096x128, .fp8e4m3⟩
  | .hbm, ⟨21, _⟩ => ⟨S8x2x4x4096x128, .fp8e4m3⟩
  | .hbm, ⟨22, _⟩ => ⟨S64x4096x128, .fp8e4m3⟩
  | .hbm, ⟨23, _⟩ => ⟨S1x2x1, .f32⟩
  | .hbm, ⟨24, _⟩ => ⟨S8x2x4, .f32⟩
  | .hbm, ⟨25, _⟩ => ⟨S64x1x1, .f32⟩
  | .hbm, ⟨26, _⟩ => ⟨S64x4096x128, .bf16⟩
  | .hbm, ⟨27, _⟩ => ⟨S8x8x4096x128, .bf16⟩
  | .hbm, ⟨28, _⟩ => ⟨S8x4096x8x128, .bf16⟩
  | .hbm, ⟨29, _⟩ => ⟨S8x4096x1024, .bf16⟩
  | .local _ .vmem, ⟨0, _⟩ => ⟨S64x4096x128, .fp8e4m3⟩
  | .local _ .vmem, ⟨1, _⟩ => ⟨S64x1x1, .f32⟩
  | .local _ .vmem, ⟨2, _⟩ => ⟨S64x4096x128, .fp8e4m3⟩
  | .local _ .vmem, ⟨3, _⟩ => ⟨S64x1x1, .f32⟩
  | .local _ .vmem, ⟨4, _⟩ => ⟨S64x4096x128, .fp8e4m3⟩
  | .local _ .vmem, ⟨5, _⟩ => ⟨S64x1x1, .f32⟩
  | .local _ .vmem, ⟨6, _⟩ => ⟨S64x4096x128, .bf16⟩
  | _, _ => ⟨S8x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KBody.lean ====
/-
  The attention kernel's body, run once over symbolic staging buffers. Its first counted loop writes the block of
  exponentials of every key block it visits into the scratch and carries the row sums; its second carries the output
  accumulator, reading each of those blocks back. The other two loops are the remainders of the two and take no trip.
  What the body leaves in the output's staging buffer is stated in closed form over the input blocks, whatever the
  scratch held before.
-/
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.Pipeline.Kit

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The closed forms -/

/-- The rectangle of key block `k` in the staged keys, -/
abbrev rK (i : grid0.Coords) (k : Fin (k0_t1_loop i).trips) : Rect S1x4096x128 :=
  Rect.unit (s := S1x4096x128) (k0_off5 i k) S1x512x128.size (k0_off5_inb i k)
/-- of its block of exponentials in the scratch, -/
abbrev rE (i : grid0.Coords) (k : Fin (k0_t1_loop i).trips) : Rect S512x4096 :=
  Rect.unit (s := S512x4096) (k0_off6 i k) S512x512.size (k0_off6_inb i k)
/-- of the same block where the second loop reads it, -/
abbrev rE3 (i : grid0.Coords) (k : Fin (k0_t3_loop i).trips) : Rect S512x4096 :=
  Rect.unit (s := S512x4096) (k0_off9 i k) S512x512.size (k0_off9_inb i k)
/-- and of value block `k` in the staged values. -/
abbrev rV (i : grid0.Coords) (k : Fin (k0_t3_loop i).trips) : Rect S1x4096x128 :=
  Rect.unit (s := S1x4096x128) (k0_off10 i k) S1x512x128.size (k0_off10_inb i k)

/-- The block of masked exponentials of key block `k`, as the first loop stores it. -/
abbrev eblk (i : grid0.Coords) (arg2 : BitVec 32) (v8 : FVec F S512x128 .fp8e4m3) (v21 : FVec F S512x1 .f32)
    (x6 : Vec F S1x4096x128 .fp8e4m3) (k : Fin (k0_t1_loop i).trips) : FVec F S512x512 .f32 :=
  k0_pay13 i arg2 v8 v21 k (View.ld x6 (rK i k))

/-- The blocks the first `k` trips stored into the scratch, the last first. -/
def pieces (i : grid0.Coords) (arg2 : BitVec 32) (v8 : FVec F S512x128 .fp8e4m3) (v21 : FVec F S512x1 .f32)
    (x6 : Vec F S1x4096x128 .fp8e4m3) : ℕ → List (View.Piece (Elt F) S512x4096 .f32)
  | 0 => []
  | k + 1 => if h : k < (k0_t1_loop i).trips then
      ⟨rE i ⟨k, h⟩, eblk i arg2 v8 v21 x6 ⟨k, h⟩⟩ :: pieces i arg2 v8 v21 x6 k
    else pieces i arg2 v8 v21 x6 k

/-- The row sums after `k` trips of the first loop, from `init`. -/
def lsum (i : grid0.Coords) (arg2 : BitVec 32) (v8 : FVec F S512x128 .fp8e4m3) (v21 : FVec F S512x1 .f32)
    (x6 : Vec F S1x4096x128 .fp8e4m3) (init : FVec F S512x1 .f32) : ℕ → FVec F S512x1 .f32
  | 0 => init
  | k + 1 => if h : k < (k0_t1_loop i).trips then
      k0_pay14 i arg2 v8 v21 ⟨k, h⟩ (lsum i arg2 v8 v21 x6 init k) (View.ld x6 (rK i ⟨k, h⟩))
    else lsum i arg2 v8 v21 x6 init k

/-- The output accumulator after `k` trips of the second loop, from `init`, reading its blocks off `x9`. -/
def osum (i : grid0.Coords) (v73 : FVec F S512x1 .f32) (x7 : Vec F S1x4096x128 .fp8e4m3)
    (x9 : Fin (k0_t3_loop i).trips → FVec F S512x512 .f32) (init : FVec F S512x128 .f32) : ℕ → FVec F S512x128 .f32
  | 0 => init
  | k + 1 => if h : k < (k0_t3_loop i).trips then
      k0_pay1 v73 (osum i v73 x7 x9 init k) (x9 ⟨k, h⟩) (View.ld x7 (rV i ⟨k, h⟩))
    else osum i v73 x7 x9 init k

theorem pieces_succ (i : grid0.Coords) (arg2 : BitVec 32) (v8 : FVec F S512x128 .fp8e4m3) (v21 : FVec F S512x1 .f32)
    (x6 : Vec F S1x4096x128 .fp8e4m3) (k : Fin (k0_t1_loop i).trips) :
    pieces i arg2 v8 v21 x6 (k.val + 1) = ⟨rE i k, eblk i arg2 v8 v21 x6 k⟩ :: pieces i arg2 v8 v21 x6 k.val := by
  rw [pieces]; exact dif_pos k.isLt

theorem lsum_succ (i : grid0.Coords) (arg2 : BitVec 32) (v8 : FVec F S512x128 .fp8e4m3) (v21 : FVec F S512x1 .f32)
    (x6 : Vec F S1x4096x128 .fp8e4m3) (init : FVec F S512x1 .f32) (k : Fin (k0_t1_loop i).trips) :
    lsum i arg2 v8 v21 x6 init (k.val + 1)
      = k0_pay14 i arg2 v8 v21 k (lsum i arg2 v8 v21 x6 init k.val) (View.ld x6 (rK i k)) := by
  rw [lsum]; exact dif_pos k.isLt

theorem osum_succ (i : grid0.Coords) (v73 : FVec F S512x1 .f32) (x7 : Vec F S1x4096x128 .fp8e4m3)
    (x9 : Fin (k0_t3_loop i).trips → FVec F S512x512 .f32) (init : FVec F S512x128 .f32) (k : Fin (k0_t3_loop i).trips) :
    osum i v73 x7 x9 init (k.val + 1) = k0_pay1 v73 (osum i v73 x7 x9 init k.val) (x9 k) (View.ld x7 (rV i k)) := by
  rw [osum]; exact dif_pos k.isLt

/-- Reading block `j` back from the scratch after `k > j` trips gives the block trip `j` stored. -/
theorem ld_pieces (v : View sig .tc .vmem S512x4096 .f32) (G : v.ty.Contents (Elt F)) (i : grid0.Coords) (arg2 : BitVec 32)
    (v8 : FVec F S512x128 .fp8e4m3) (v21 : FVec F S512x1 .f32) (x6 : Vec F S1x4096x128 .fp8e4m3)
    (j : Fin (k0_t1_loop i).trips) : ∀ k, j.val < k → k ≤ (k0_t1_loop i).trips →
    View.readAt (Elt F) v (rE i j).toLoadRect (v.writes (Elt F) G (pieces i arg2 v8 v21 x6 k)) = eblk i arg2 v8 v21 x6 j
  | 0, h, _ => absurd h (Nat.not_lt_zero _)
  | k + 1, h, hk => by
    rw [pieces_succ i arg2 v8 v21 x6 ⟨k, hk⟩]
    rcases Nat.lt_succ_iff_lt_or_eq.mp h with h' | h'
    · rw [← ld_pieces v G i arg2 v8 v21 x6 j k h' (Nat.le_of_succ_le hk)]
      rw [View.readAt_rect, View.readAt_rect, View.writes_cons]
      refine View.read_slice_write_slice_of_disjoint _ _ _ _ _ ?_
      rw [View.setOn_univ, View.set_slice, View.set_slice, Finset.disjoint_map]
      refine Finset.disjoint_left.mpr fun y h1 h2 => ?_
      have a1 := (Rect.mem_set_unit.mp h1) 1
      have h2 : y ∈ (rE i ⟨k, hk⟩).set := h2
      have a2 := (Rect.mem_set_unit.mp h2) 1
      rw [k0_off6_eq] at a1 a2
      change 512 * j.val ≤ (y 1).val ∧ (y 1).val < 512 * j.val + 512 at a1
      change 512 * k ≤ (y 1).val ∧ (y 1).val < 512 * k + 512 at a2
      omega
    · obtain ⟨j, hj⟩ := j
      have h'' : j = k := h'
      subst h''
      rw [View.readAt_rect, View.writes_cons, View.read_write_univ]

/-! ### The four loops -/

set_option warn.classDefReducibility false in
/-- The first loop: before trip `k` the scratch holds the first `k` trips' blocks over what it held, the carried value
    is the row sums of `k` trips. -/
@[sl_loop] def loop1 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole) (arg2 : BitVec 32) (v8 : FVec F S512x128 .fp8e4m3) (v21 : FVec F S512x1 .f32) (v25 : BitVec 32) (c512_i32_10 : BitVec 32) (v26 : BitVec 32) (v31 : BitVec 32) (v32 : BitVec 1)
    (X6 : BufTy.Contents (Elt F) arg6.view.ty) (G9 : BufTy.Contents (Elt F) arg9.view.ty) (init : FVec F S512x1 .f32) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) init (k0_t1_body (F := F) i arg3 harg3 arg4 harg4 arg5 harg5 arg6 harg6 arg7 harg7 arg8 harg8 arg9 harg9 arg2 v8 v21 v25 c512_i32_10 v26 v31 v32) where
  inv k acc := iprop((arg6.view.loc (c : Thread nD τ) ↦[arg6.view.set]{fullShare} X6)
    ∗ (∃ f, (arg9.view.loc (c : Thread nD τ) ↦[arg9.view.set]{fullShare} f)
        ∗ ⌜f = arg9.view.writes (Elt F) G9 (pieces i arg2 v8 v21 (arg6.view.read (Elt F) X6) k)⌝)
    ∗ ⌜acc = lsum i arg2 v8 v21 (arg6.view.read (Elt F) X6) init k⌝)
  step k acc := by
    iintro ⟨H6, ⟨%f, H9, %h9⟩, %hacc⟩
    subst h9 hacc
    unfold k0_t1_body
    sl_exec
    sl_step
    isplitl [H6]; · iexact H6
    isplitl [H9]
    · iexists _; isplitl [H9]; · iexact H9
      ipureintro; rw [pieces_succ]; rfl
    ipureintro; rw [lsum_succ]; rfl

set_option warn.classDefReducibility false in
/-- The first loop's remainder takes no trip. -/
@[sl_loop] def loop2 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole) (arg2 : BitVec 32) (v8 : FVec F S512x128 .fp8e4m3) (v21 : FVec F S512x1 .f32) (v25 : BitVec 32) (c512_i32_10 : BitVec 32) (v26 : BitVec 32) (v31 : BitVec 32) (v32 : BitVec 1)
    (init : FVec F S512x1 .f32) :
    Idealize.ShloMosaic.LoopInv (M := 𝕄) Idealize.ShloMosaic.frame (wpE defs₀ 𝒱 (c : Thread nD τ) bd) E
      (k0_t2_loop i).lb (k0_t2_loop i).ub (k0_t2_loop i).st (k0_t2_ok i) init (k0_t2_body (F := F) i arg3 harg3 arg4 harg4 arg5 harg5 arg6 harg6 arg7 harg7 arg8 harg8 arg9 harg9 arg2 v8 v21 v25 c512_i32_10 v26 v31 v32) where
  inv _ acc := iprop(⌜acc = init⌝)
  step k acc := absurd k.isLt (Nat.not_lt.2 (Nat.le_trans (k0_t2_abs i).2.1 (Nat.zero_le _)))

set_option warn.classDefReducibility false in
/-- The second loop: before trip `k` the carried value is the accumulator of `k` trips. -/
@[sl_loop] def loop3 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (v73 : FVec F S512x1 .f32)
    (X7 : BufTy.Contents (Elt F) arg7.view.ty) (X9 : BufTy.Contents (Elt F) arg9.view.ty) (init : FVec F S512x128 .f32) :
    Idealize.ShloMosaic.LoopInv (M := 𝕄) Idealize.ShloMosaic.frame (wpE defs₀ 𝒱 (c : Thread nD τ) bd) E
      (k0_t3_loop i).lb (k0_t3_loop i).ub (k0_t3_loop i).st (k0_t3_ok i) init (k0_t3_body (F := F) i arg3 harg3 arg4 harg4 arg5 harg5 arg6 harg6 arg7 harg7 arg8 harg8 arg9 harg9 v73) where
  inv k acc := iprop((arg7.view.loc (c : Thread nD τ) ↦[arg7.view.set]{fullShare} X7)
    ∗ (arg9.view.loc (c : Thread nD τ) ↦[arg9.view.set]{fullShare} X9)
    ∗ ⌜acc = osum i v73 (arg7.view.read (Elt F) X7) (fun j => View.readAt (Elt F) arg9.view (rE3 i j).toLoadRect X9) init k⌝)
  step k acc := by
    iintro ⟨H7, H9, %hacc⟩
    subst hacc
    unfold k0_t3_body
    sl_exec
    sl_step
    isplitl [H7]; · iexact H7
    isplitl [H9]; · iexact H9
    ipureintro; rw [osum_succ]; rfl

set_option warn.classDefReducibility false in
/-- The second loop's remainder takes no trip. -/
@[sl_loop] def loop4 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (v73 : FVec F S512x1 .f32) (init : FVec F S512x128 .f32) :
    Idealize.ShloMosaic.LoopInv (M := 𝕄) Idealize.ShloMosaic.frame (wpE defs₀ 𝒱 (c : Thread nD τ) bd) E
      (k0_t4_loop i).lb (k0_t4_loop i).ub (k0_t4_loop i).st (k0_t4_ok i) init (k0_t4_body (F := F) i arg3 harg3 arg4 harg4 arg5 harg5 arg6 harg6 arg7 harg7 arg8 harg8 arg9 harg9 v73) where
  inv _ acc := iprop(⌜acc = init⌝)
  step k acc := absurd k.isLt (Nat.not_lt.2 (Nat.le_trans (k0_t4_abs i).2.1 (Nat.zero_le _)))

/-! ### What the body leaves -/

/-- The rectangle of group member `g`'s columns (128 wide) in a staged block of queries or results. -/
abbrev rQ0 : Rect S1x128x512 := Rect.unit (s := S1x128x512) ![0, 0, 0] S1x128x128.size inb_S1x128x512_S1x128x128_0_0_0
abbrev rQ1 : Rect S1x128x512 := Rect.unit (s := S1x128x512) ![0, 0, 128] S1x128x128.size inb_S1x128x512_S1x128x128_0_0_128
abbrev rQ2 : Rect S1x128x512 := Rect.unit (s := S1x128x512) ![0, 0, 256] S1x128x128.size inb_S1x128x512_S1x128x128_0_0_256
abbrev rQ3 : Rect S1x128x512 := Rect.unit (s := S1x128x512) ![0, 0, 384] S1x128x128.size inb_S1x128x512_S1x128x128_0_0_384

/-- The four group members' queries stacked. -/
def qv (x5 : Vec F S1x128x512 .fp8e4m3) : FVec F S512x128 .fp8e4m3 :=
  k0_pay8 (View.ld x5 rQ0) (View.ld x5 rQ1) (View.ld x5 rQ2) (View.ld x5 rQ3)

theorem one1 : 0 < S1x1.numel := numel1_S1x1.symm ▸ Nat.one_pos
theorem one0 : 0 < S1.numel := numel1_S1.symm ▸ Nat.one_pos

/-- Their score multipliers, one per row. -/
def c1v (i : grid0.Coords) (x3 : Vec F S2x4 .f32) : FVec F S512x1 .f32 :=
  k0_pay9 (View.ld x3 (Rect.unit (s := S2x4) (k0_off1 i) S1x1.size (k0_off1_inb i)) (Shape.Idx.first one1))
    (View.ld x3 (Rect.unit (s := S2x4) (k0_off2 i) S1x1.size (k0_off2_inb i)) (Shape.Idx.first one1))
    (View.ld x3 (Rect.unit (s := S2x4) (k0_off3 i) S1x1.size (k0_off3_inb i)) (Shape.Idx.first one1))
    (View.ld x3 (Rect.unit (s := S2x4) (k0_off4 i) S1x1.size (k0_off4_inb i)) (Shape.Idx.first one1))

/-- The output multiplier. -/
def oscv (i : grid0.Coords) (x4 : Vec F S2 .f32) : Elt F .f32 :=
  View.ld x4 (Rect.unit (s := S2) (k0_off13 i) S1.size (k0_off13_inb i)) (Shape.Idx.first one0)

/-- Trip `k` of the second loop as a trip of the first: the two take equally many. -/
abbrev as1 (i : grid0.Coords) (k : Fin (k0_t3_loop i).trips) : Fin (k0_t1_loop i).trips := k

/-- The reciprocal row sums, times the scale of the probability codes. -/
def rv (i : grid0.Coords) (x3 : Vec F S2x4 .f32) (x5 : Vec F S1x128x512 .fp8e4m3) (x6 : Vec F S1x4096x128 .fp8e4m3) : FVec F S512x1 .f32 :=
  k0_pay18 (lsum i (BitVec.ofNat 32 (i 2).val) (qv x5) (c1v i x3) x6 k0_pay11 (k0_t1_loop i).trips)

/-- The output accumulator after all trips. -/
def oacc (i : grid0.Coords) (x3 : Vec F S2x4 .f32) (x5 : Vec F S1x128x512 .fp8e4m3) (x6 x7 : Vec F S1x4096x128 .fp8e4m3) : FVec F S512x128 .f32 :=
  osum i (rv i x3 x5 x6) x7 (fun j => eblk i (BitVec.ofNat 32 (i 2).val) (qv x5) (c1v i x3) x6 (as1 i j)) k0_pay19 (k0_t3_loop i).trips

/-- The output's staging buffer after the body, from the input windows' blocks. -/
def outv (i : grid0.Coords) (x3 : Vec F S2x4 .f32) (x4 : Vec F S2 .f32) (x5 : Vec F S1x128x512 .fp8e4m3) (x6 x7 : Vec F S1x4096x128 .fp8e4m3) : Vec F S1x128x512 .bf16 :=
  View.canon [⟨rQ3, k0_pay7 (oacc i x3 x5 x6 x7) (oscv i x4)⟩, ⟨rQ2, k0_pay6 (oacc i x3 x5 x6 x7) (oscv i x4)⟩,
    ⟨rQ1, k0_pay5 (oacc i x3 x5 x6 x7) (oscv i x4)⟩, ⟨rQ0, k0_pay4 (oacc i x3 x5 x6 x7) (oscv i x4)⟩]

/-- The four stores cover the buffer. -/
theorem cover (p3 p2 p1 p0 : Vec F S1x128x128 .bf16) (y : S1x128x512.Idx) :
    ∃ pc ∈ ([⟨rQ3, p3⟩, ⟨rQ2, p2⟩, ⟨rQ1, p1⟩, ⟨rQ0, p0⟩] : List (View.Piece (Elt F) S1x128x512 .bf16)), y ∈ pc.1.set :=
  View.cover_of_tiled [⟨rQ3, p3⟩, ⟨rQ2, p2⟩, ⟨rQ1, p1⟩, ⟨rQ0, p0⟩] S1x128x128.size (by rfl) y

/-- Reading the scratch back in the second loop gives the blocks the first loop stored. -/
theorem readback (v : View sig .tc .vmem S512x4096 .f32) (G : v.ty.Contents (Elt F)) (i : grid0.Coords) (arg2 : BitVec 32)
    (v8 : FVec F S512x128 .fp8e4m3) (v21 : FVec F S512x1 .f32) (x6 : Vec F S1x4096x128 .fp8e4m3) :
    (fun j : Fin (k0_t3_loop i).trips => View.readAt (Elt F) v (rE3 i j).toLoadRect
      (v.writes (Elt F) G (pieces i arg2 v8 v21 x6 (Scf.trips (k0_t1_loop i).lb (k0_t1_loop i).ub (k0_t1_loop i).st))))
      = fun j => eblk i arg2 v8 v21 x6 (as1 i j) :=
  funext fun j => ld_pieces v G i arg2 v8 v21 x6 (as1 i j) _ j.isLt (Nat.le_refl _)

/-! ### The body -/

set_option maxHeartbeats 1000000 in
/-- The kernel body on whole staging memrefs, the inputs' at read contents, the output's and the scratch's at anything,
    runs to the continuation holding the inputs' as they were and the output's at `outv` of the inputs'. -/
theorem sound_kernel (c : Dev nD) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (x3 : Vec F S2x4 .f32) (x4 : Vec F S2 .f32) (x5 : Vec F S1x128x512 .fp8e4m3) (x6 x7 : Vec F S1x4096x128 .fp8e4m3)
    (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outv i x3 x4 x5 x6 x7) ∗ (∃ d, owns (c : Thread nD τ) arg9 fullShare d)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    simp only [readback]
    exact View.read_writes_eq_canon _ _ _ (cover _ _ _ _)
  iexists _, _; isplitr
  swap; · iexact H9
  ipureintro; rfl

end Cert.Proof.K

end
-- ==== Proof.KRun.lean ====
/-
  The attention kernel's run: the pipeline's proof data (every input's staging buffer at its block, the output's at the
  body's closed form of the input blocks, the scratch at anything), the body's obligation at every grid point, the run
  of the whole program from the launch, and the frame claim.
-/
module

public import proofs.«01_k».proof.Proof.KBody
public import Idealize.ShloMosaic.Lib.Claim
public import Idealize.ShloMosaic.Lib.Pipeline.FrameBody

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `outv` of the input blocks; the invariant the scoped rest (the
    scratch at some contents) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outv (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks and the scratch, out of the invariant, anything, so
    `sound_kernel` applies; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5]
  unfold Pipeline.ΦA; rw [scopedRest0_eq]
  iintro ⟨⟨⟨%f, Hs⟩, HP⟩, Ho, ⟨%d0, H0⟩, ⟨%d1, H1⟩, ⟨%d2, H2⟩, ⟨%d3, H3⟩, ⟨%d4, H4⟩, ⟨%d5, H5⟩⟩
  ihave Hs := (Entails.of_eq (owns_whole (c : Thread nD τ) cc0_scratch0 fullShare f).symm) $$ Hs
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists f; iexact Hs
  iintro ⟨H0, H1, H2, H3, H4, H5, ⟨%g, Hs⟩⟩
  ihave Hs := (Entails.of_eq (owns_whole (c : Thread nD τ) cc0_scratch0 fullShare g)) $$ Hs
  isplitl [Hs HP]
  · isplitl [Hs]
    · iexists g; iexact Hs
    iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim at any floats: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.K

end
-- ==== Proof.KIBody.lean ====
/-
  The attention kernel's body, run once over symbolic staging buffers. Its first counted loop writes the block of
  exponentials of every key block it visits into the scratch and carries the row sums; its second carries the output
  accumulator, reading each of those blocks back. The other two loops are the remainders of the two and take no trip.
  What the body leaves in the output's staging buffer is stated in closed form over the input blocks, whatever the
  scratch held before.
-/
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The closed forms -/

/-- The rectangle of key block `k` in the staged keys, -/
abbrev rK (i : grid0.Coords) (k : Fin (k0_t1_loop i).trips) : Rect S1x4096x128 :=
  Rect.unit (s := S1x4096x128) (k0_off5 i k) S1x512x128.size (k0_off5_inb i k)
/-- of its block of exponentials in the scratch, -/
abbrev rE (i : grid0.Coords) (k : Fin (k0_t1_loop i).trips) : Rect S512x4096 :=
  Rect.unit (s := S512x4096) (k0_off6 i k) S512x512.size (k0_off6_inb i k)
/-- of the same block where the second loop reads it, -/
abbrev rE3 (i : grid0.Coords) (k : Fin (k0_t3_loop i).trips) : Rect S512x4096 :=
  Rect.unit (s := S512x4096) (k0_off9 i k) S512x512.size (k0_off9_inb i k)
/-- and of value block `k` in the staged values. -/
abbrev rV (i : grid0.Coords) (k : Fin (k0_t3_loop i).trips) : Rect S1x4096x128 :=
  Rect.unit (s := S1x4096x128) (k0_off10 i k) S1x512x128.size (k0_off10_inb i k)

/-- The block of masked exponentials of key block `k`, as the first loop stores it. -/
abbrev eblk (i : grid0.Coords) (arg2 : BitVec 32) (v8 : FVec F S512x128 .fp8e4m3) (v21 : FVec F S512x1 .f32)
    (x6 : Vec F S1x4096x128 .fp8e4m3) (k : Fin (k0_t1_loop i).trips) : FVec F S512x512 .f32 :=
  k0_pay13 i arg2 v8 v21 k (View.ld x6 (rK i k))

/-- The blocks the first `k` trips stored into the scratch, the last first. -/
def pieces (i : grid0.Coords) (arg2 : BitVec 32) (v8 : FVec F S512x128 .fp8e4m3) (v21 : FVec F S512x1 .f32)
    (x6 : Vec F S1x4096x128 .fp8e4m3) : ℕ → List (View.Piece (Elt F) S512x4096 .f32)
  | 0 => []
  | k + 1 => if h : k < (k0_t1_loop i).trips then
      ⟨rE i ⟨k, h⟩, eblk i arg2 v8 v21 x6 ⟨k, h⟩⟩ :: pieces i arg2 v8 v21 x6 k
    else pieces i arg2 v8 v21 x6 k

/-- The row sums after `k` trips of the first loop, from `init`. -/
def lsum (i : grid0.Coords) (arg2 : BitVec 32) (v8 : FVec F S512x128 .fp8e4m3) (v21 : FVec F S512x1 .f32)
    (x6 : Vec F S1x4096x128 .fp8e4m3) (init : FVec F S512x1 .f32) : ℕ → FVec F S512x1 .f32
  | 0 => init
  | k + 1 => if h : k < (k0_t1_loop i).trips then
      k0_pay14 i arg2 v8 v21 ⟨k, h⟩ (lsum i arg2 v8 v21 x6 init k) (View.ld x6 (rK i ⟨k, h⟩))
    else lsum i arg2 v8 v21 x6 init k

/-- The output accumulator after `k` trips of the second loop, from `init`, reading its blocks off `x9`. -/
def osum (i : grid0.Coords) (v73 : FVec F S512x1 .f32) (x7 : Vec F S1x4096x128 .fp8e4m3)
    (x9 : Fin (k0_t3_loop i).trips → FVec F S512x512 .f32) (init : FVec F S512x128 .f32) : ℕ → FVec F S512x128 .f32
  | 0 => init
  | k + 1 => if h : k < (k0_t3_loop i).trips then
      k0_pay1 v73 (osum i v73 x7 x9 init k) (x9 ⟨k, h⟩) (View.ld x7 (rV i ⟨k, h⟩))
    else osum i v73 x7 x9 init k

theorem pieces_succ (i : grid0.Coords) (arg2 : BitVec 32) (v8 : FVec F S512x128 .fp8e4m3) (v21 : FVec F S512x1 .f32)
    (x6 : Vec F S1x4096x128 .fp8e4m3) (k : Fin (k0_t1_loop i).trips) :
    pieces i arg2 v8 v21 x6 (k.val + 1) = ⟨rE i k, eblk i arg2 v8 v21 x6 k⟩ :: pieces i arg2 v8 v21 x6 k.val := by
  rw [pieces]; exact dif_pos k.isLt

theorem lsum_succ (i : grid0.Coords) (arg2 : BitVec 32) (v8 : FVec F S512x128 .fp8e4m3) (v21 : FVec F S512x1 .f32)
    (x6 : Vec F S1x4096x128 .fp8e4m3) (init : FVec F S512x1 .f32) (k : Fin (k0_t1_loop i).trips) :
    lsum i arg2 v8 v21 x6 init (k.val + 1)
      = k0_pay14 i arg2 v8 v21 k (lsum i arg2 v8 v21 x6 init k.val) (View.ld x6 (rK i k)) := by
  rw [lsum]; exact dif_pos k.isLt

theorem osum_succ (i : grid0.Coords) (v73 : FVec F S512x1 .f32) (x7 : Vec F S1x4096x128 .fp8e4m3)
    (x9 : Fin (k0_t3_loop i).trips → FVec F S512x512 .f32) (init : FVec F S512x128 .f32) (k : Fin (k0_t3_loop i).trips) :
    osum i v73 x7 x9 init (k.val + 1) = k0_pay1 v73 (osum i v73 x7 x9 init k.val) (x9 k) (View.ld x7 (rV i k)) := by
  rw [osum]; exact dif_pos k.isLt

/-- Reading block `j` back from the scratch after `k > j` trips gives the block trip `j` stored. -/
theorem ld_pieces (v : View sig .tc .vmem S512x4096 .f32) (G : v.ty.Contents (Elt F)) (i : grid0.Coords) (arg2 : BitVec 32)
    (v8 : FVec F S512x128 .fp8e4m3) (v21 : FVec F S512x1 .f32) (x6 : Vec F S1x4096x128 .fp8e4m3)
    (j : Fin (k0_t1_loop i).trips) : ∀ k, j.val < k → k ≤ (k0_t1_loop i).trips →
    View.readAt (Elt F) v (rE i j).toLoadRect (v.writes (Elt F) G (pieces i arg2 v8 v21 x6 k)) = eblk i arg2 v8 v21 x6 j
  | 0, h, _ => absurd h (Nat.not_lt_zero _)
  | k + 1, h, hk => by
    rw [pieces_succ i arg2 v8 v21 x6 ⟨k, hk⟩]
    rcases Nat.lt_succ_iff_lt_or_eq.mp h with h' | h'
    · rw [← ld_pieces v G i arg2 v8 v21 x6 j k h' (Nat.le_of_succ_le hk)]
      rw [View.readAt_rect, View.readAt_rect, View.writes_cons]
      refine View.read_slice_write_slice_of_disjoint _ _ _ _ _ ?_
      rw [View.setOn_univ, View.set_slice, View.set_slice, Finset.disjoint_map]
      refine Finset.disjoint_left.mpr fun y h1 h2 => ?_
      have a1 := (Rect.mem_set_unit.mp h1) 1
      have h2 : y ∈ (rE i ⟨k, hk⟩).set := h2
      have a2 := (Rect.mem_set_unit.mp h2) 1
      rw [k0_off6_eq] at a1 a2
      change 512 * j.val ≤ (y 1).val ∧ (y 1).val < 512 * j.val + 512 at a1
      change 512 * k ≤ (y 1).val ∧ (y 1).val < 512 * k + 512 at a2
      omega
    · obtain ⟨j, hj⟩ := j
      have h'' : j = k := h'
      subst h''
      rw [View.readAt_rect, View.writes_cons, View.read_write_univ]

/-! ### The four loops -/

set_option warn.classDefReducibility false in
/-- The first loop: before trip `k` the scratch holds the first `k` trips' blocks over what it held, the carried value
    is the row sums of `k` trips. -/
@[sl_loop] def loop1 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole) (arg2 : BitVec 32) (v8 : FVec F S512x128 .fp8e4m3) (v21 : FVec F S512x1 .f32) (v25 : BitVec 32) (c512_i32_10 : BitVec 32) (v26 : BitVec 32) (v31 : BitVec 32) (v32 : BitVec 1)
    (X6 : BufTy.Contents (Elt F) arg6.view.ty) (G9 : BufTy.Contents (Elt F) arg9.view.ty) (init : FVec F S512x1 .f32) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) init (k0_t1_body (F := F) i arg3 harg3 arg4 harg4 arg5 harg5 arg6 harg6 arg7 harg7 arg8 harg8 arg9 harg9 arg2 v8 v21 v25 c512_i32_10 v26 v31 v32) where
  inv k acc := iprop((arg6.view.loc (c : Thread nD τ) ↦[arg6.view.set]{fullShare} X6)
    ∗ (∃ f, (arg9.view.loc (c : Thread nD τ) ↦[arg9.view.set]{fullShare} f)
        ∗ ⌜f = arg9.view.writes (Elt F) G9 (pieces i arg2 v8 v21 (arg6.view.read (Elt F) X6) k)⌝)
    ∗ ⌜acc = lsum i arg2 v8 v21 (arg6.view.read (Elt F) X6) init k⌝)
  step k acc := by
    iintro ⟨H6, ⟨%f, H9, %h9⟩, %hacc⟩
    subst h9 hacc
    unfold k0_t1_body
    sl_exec
    sl_step
    isplitl [H6]; · iexact H6
    isplitl [H9]
    · iexists _; isplitl [H9]; · iexact H9
      ipureintro; rw [pieces_succ]; rfl
    ipureintro; rw [lsum_succ]; rfl

set_option warn.classDefReducibility false in
/-- The first loop's remainder takes no trip. -/
@[sl_loop] def loop2 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole) (arg2 : BitVec 32) (v8 : FVec F S512x128 .fp8e4m3) (v21 : FVec F S512x1 .f32) (v25 : BitVec 32) (c512_i32_10 : BitVec 32) (v26 : BitVec 32) (v31 : BitVec 32) (v32 : BitVec 1)
    (init : FVec F S512x1 .f32) :
    Idealize.ShloMosaic.LoopInv (M := 𝕄) Idealize.ShloMosaic.frame (wpE defs₀ 𝒱 (c : Thread nD τ) bd) E
      (k0_t2_loop i).lb (k0_t2_loop i).ub (k0_t2_loop i).st (k0_t2_ok i) init (k0_t2_body (F := F) i arg3 harg3 arg4 harg4 arg5 harg5 arg6 harg6 arg7 harg7 arg8 harg8 arg9 harg9 arg2 v8 v21 v25 c512_i32_10 v26 v31 v32) where
  inv _ acc := iprop(⌜acc = init⌝)
  step k acc := absurd k.isLt (Nat.not_lt.2 (Nat.le_trans (k0_t2_abs i).2.1 (Nat.zero_le _)))

set_option warn.classDefReducibility false in
/-- The second loop: before trip `k` the carried value is the accumulator of `k` trips. -/
@[sl_loop] def loop3 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (v73 : FVec F S512x1 .f32)
    (X7 : BufTy.Contents (Elt F) arg7.view.ty) (X9 : BufTy.Contents (Elt F) arg9.view.ty) (init : FVec F S512x128 .f32) :
    Idealize.ShloMosaic.LoopInv (M := 𝕄) Idealize.ShloMosaic.frame (wpE defs₀ 𝒱 (c : Thread nD τ) bd) E
      (k0_t3_loop i).lb (k0_t3_loop i).ub (k0_t3_loop i).st (k0_t3_ok i) init (k0_t3_body (F := F) i arg3 harg3 arg4 harg4 arg5 harg5 arg6 harg6 arg7 harg7 arg8 harg8 arg9 harg9 v73) where
  inv k acc := iprop((arg7.view.loc (c : Thread nD τ) ↦[arg7.view.set]{fullShare} X7)
    ∗ (arg9.view.loc (c : Thread nD τ) ↦[arg9.view.set]{fullShare} X9)
    ∗ ⌜acc = osum i v73 (arg7.view.read (Elt F) X7) (fun j => View.readAt (Elt F) arg9.view (rE3 i j).toLoadRect X9) init k⌝)
  step k acc := by
    iintro ⟨H7, H9, %hacc⟩
    subst hacc
    unfold k0_t3_body
    sl_exec
    sl_step
    isplitl [H7]; · iexact H7
    isplitl [H9]; · iexact H9
    ipureintro; rw [osum_succ]; rfl

set_option warn.classDefReducibility false in
/-- The second loop's remainder takes no trip. -/
@[sl_loop] def loop4 (𝒱 : Variants) (c : Dev nD) (bd : Option 𝒱.V) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (v73 : FVec F S512x1 .f32) (init : FVec F S512x128 .f32) :
    Idealize.ShloMosaic.LoopInv (M := 𝕄) Idealize.ShloMosaic.frame (wpE defs₀ 𝒱 (c : Thread nD τ) bd) E
      (k0_t4_loop i).lb (k0_t4_loop i).ub (k0_t4_loop i).st (k0_t4_ok i) init (k0_t4_body (F := F) i arg3 harg3 arg4 harg4 arg5 harg5 arg6 harg6 arg7 harg7 arg8 harg8 arg9 harg9 v73) where
  inv _ acc := iprop(⌜acc = init⌝)
  step k acc := absurd k.isLt (Nat.not_lt.2 (Nat.le_trans (k0_t4_abs i).2.1 (Nat.zero_le _)))

/-! ### What the body leaves -/

/-- The rectangle of group member `g`'s columns (128 wide) in a staged block of queries or results. -/
abbrev rQ0 : Rect S1x128x512 := Rect.unit (s := S1x128x512) ![0, 0, 0] S1x128x128.size inb_S1x128x512_S1x128x128_0_0_0
abbrev rQ1 : Rect S1x128x512 := Rect.unit (s := S1x128x512) ![0, 0, 128] S1x128x128.size inb_S1x128x512_S1x128x128_0_0_128
abbrev rQ2 : Rect S1x128x512 := Rect.unit (s := S1x128x512) ![0, 0, 256] S1x128x128.size inb_S1x128x512_S1x128x128_0_0_256
abbrev rQ3 : Rect S1x128x512 := Rect.unit (s := S1x128x512) ![0, 0, 384] S1x128x128.size inb_S1x128x512_S1x128x128_0_0_384

/-- The four group members' queries stacked. -/
def qv (x5 : Vec F S1x128x512 .fp8e4m3) : FVec F S512x128 .fp8e4m3 :=
  k0_pay8 (View.ld x5 rQ0) (View.ld x5 rQ1) (View.ld x5 rQ2) (View.ld x5 rQ3)

theorem one1 : 0 < S1x1.numel := numel1_S1x1.symm ▸ Nat.one_pos
theorem one0 : 0 < S1.numel := numel1_S1.symm ▸ Nat.one_pos

/-- Their score multipliers, one per row. -/
def c1v (i : grid0.Coords) (x3 : Vec F S2x4 .f32) : FVec F S512x1 .f32 :=
  k0_pay9 (View.ld x3 (Rect.unit (s := S2x4) (k0_off1 i) S1x1.size (k0_off1_inb i)) (Shape.Idx.first one1))
    (View.ld x3 (Rect.unit (s := S2x4) (k0_off2 i) S1x1.size (k0_off2_inb i)) (Shape.Idx.first one1))
    (View.ld x3 (Rect.unit (s := S2x4) (k0_off3 i) S1x1.size (k0_off3_inb i)) (Shape.Idx.first one1))
    (View.ld x3 (Rect.unit (s := S2x4) (k0_off4 i) S1x1.size (k0_off4_inb i)) (Shape.Idx.first one1))

/-- The output multiplier. -/
def oscv (i : grid0.Coords) (x4 : Vec F S2 .f32) : Elt F .f32 :=
  View.ld x4 (Rect.unit (s := S2) (k0_off13 i) S1.size (k0_off13_inb i)) (Shape.Idx.first one0)

/-- Trip `k` of the second loop as a trip of the first: the two take equally many. -/
abbrev as1 (i : grid0.Coords) (k : Fin (k0_t3_loop i).trips) : Fin (k0_t1_loop i).trips := k

/-- The reciprocal row sums, times the scale of the probability codes. -/
def rv (i : grid0.Coords) (x3 : Vec F S2x4 .f32) (x5 : Vec F S1x128x512 .fp8e4m3) (x6 : Vec F S1x4096x128 .fp8e4m3) : FVec F S512x1 .f32 :=
  k0_pay18 (lsum i (BitVec.ofNat 32 (i 2).val) (qv x5) (c1v i x3) x6 k0_pay11 (k0_t1_loop i).trips)

/-- The output accumulator after all trips. -/
def oacc (i : grid0.Coords) (x3 : Vec F S2x4 .f32) (x5 : Vec F S1x128x512 .fp8e4m3) (x6 x7 : Vec F S1x4096x128 .fp8e4m3) : FVec F S512x128 .f32 :=
  osum i (rv i x3 x5 x6) x7 (fun j => eblk i (BitVec.ofNat 32 (i 2).val) (qv x5) (c1v i x3) x6 (as1 i j)) k0_pay19 (k0_t3_loop i).trips

/-- The output's staging buffer after the body, from the input windows' blocks. -/
def outv (i : grid0.Coords) (x3 : Vec F S2x4 .f32) (x4 : Vec F S2 .f32) (x5 : Vec F S1x128x512 .fp8e4m3) (x6 x7 : Vec F S1x4096x128 .fp8e4m3) : Vec F S1x128x512 .bf16 :=
  View.canon [⟨rQ3, k0_pay7 (oacc i x3 x5 x6 x7) (oscv i x4)⟩, ⟨rQ2, k0_pay6 (oacc i x3 x5 x6 x7) (oscv i x4)⟩,
    ⟨rQ1, k0_pay5 (oacc i x3 x5 x6 x7) (oscv i x4)⟩, ⟨rQ0, k0_pay4 (oacc i x3 x5 x6 x7) (oscv i x4)⟩]

/-- The four stores cover the buffer. -/
theorem cover (p3 p2 p1 p0 : Vec F S1x128x128 .bf16) (y : S1x128x512.Idx) :
    ∃ pc ∈ ([⟨rQ3, p3⟩, ⟨rQ2, p2⟩, ⟨rQ1, p1⟩, ⟨rQ0, p0⟩] : List (View.Piece (Elt F) S1x128x512 .bf16)), y ∈ pc.1.set :=
  View.cover_of_tiled [⟨rQ3, p3⟩, ⟨rQ2, p2⟩, ⟨rQ1, p1⟩, ⟨rQ0, p0⟩] S1x128x128.size (by rfl) y

/-- Reading the scratch back in the second loop gives the blocks the first loop stored. -/
theorem readback (v : View sig .tc .vmem S512x4096 .f32) (G : v.ty.Contents (Elt F)) (i : grid0.Coords) (arg2 : BitVec 32)
    (v8 : FVec F S512x128 .fp8e4m3) (v21 : FVec F S512x1 .f32) (x6 : Vec F S1x4096x128 .fp8e4m3) :
    (fun j : Fin (k0_t3_loop i).trips => View.readAt (Elt F) v (rE3 i j).toLoadRect
      (v.writes (Elt F) G (pieces i arg2 v8 v21 x6 (Scf.trips (k0_t1_loop i).lb (k0_t1_loop i).ub (k0_t1_loop i).st))))
      = fun j => eblk i arg2 v8 v21 x6 (as1 i j) :=
  funext fun j => ld_pieces v G i arg2 v8 v21 x6 (as1 i j) _ j.isLt (Nat.le_refl _)

/-! ### The body -/

set_option maxHeartbeats 1000000 in
/-- The kernel body on whole staging memrefs, the inputs' at read contents, the output's and the scratch's at anything,
    runs to the continuation holding the inputs' as they were and the output's at `outv` of the inputs'. -/
theorem sound_kernel (c : Dev nD) (E : Set ℕ) (i : grid0.Coords) (arg3 : Memref sig .tc .smem S2x4 .f32) (harg3 : arg3.IsWhole) (arg4 : Memref sig .tc .smem S2 .f32) (harg4 : arg4.IsWhole) (arg5 : Memref sig .tc .vmem S1x128x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x128x512 .bf16) (harg8 : arg8.IsWhole) (arg9 : Memref sig .tc .vmem S512x4096 .f32) (harg9 : arg9.IsWhole)
    (x3 : Vec F S2x4 .f32) (x4 : Vec F S2 .f32) (x5 : Vec F S1x128x512 .fp8e4m3) (x6 x7 : Vec F S1x4096x128 .fp8e4m3)
    (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outv i x3 x4 x5 x6 x7) ∗ (∃ d, owns (c : Thread nD τ) arg9 fullShare d)) -∗ K ⟨⟩))
      ⊢ wp frame (wpE (defs₀ (F := F)) Variants.none c none) E (cc0__attn_kernel i arg3 harg3 arg4 harg4 arg5 harg5 arg6 harg6 arg7 harg7 arg8 harg8 arg9 harg9) K := by
  simp only [cc0__attn_kernel_eq_skeleton]; unfold cc0__attn_kernel_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    simp only [readback]
    exact View.read_writes_eq_canon _ _ _ (cover _ _ _ _)
  iexists _, _; isplitr
  swap; · iexact H9
  ipureintro; rfl

end Cert.Proof.KI

end
-- ==== Proof.KIRun.lean ====
/-
  The attention kernel's run: the pipeline's proof data (every input's staging buffer at its block, the output's at the
  body's closed form of the input blocks, the scratch at anything), the body's obligation at every grid point, the run
  of the whole program from the launch, and the frame claim.
-/
module

public import proofs.«01_k».proof.Proof.KIBody
public import Idealize.ShloMosaic.Lib.Claim
public import Idealize.ShloMosaic.Lib.Pipeline.FrameBody

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `outv` of the input blocks; the invariant the scoped rest (the
    scratch at some contents) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outv (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks and the scratch, out of the invariant, anything, so
    `sound_kernel` applies; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5]
  unfold Pipeline.ΦA; rw [scopedRest0_eq]
  iintro ⟨⟨⟨%f, Hs⟩, HP⟩, Ho, ⟨%d0, H0⟩, ⟨%d1, H1⟩, ⟨%d2, H2⟩, ⟨%d3, H3⟩, ⟨%d4, H4⟩, ⟨%d5, H5⟩⟩
  ihave Hs := (Entails.of_eq (owns_whole (c : Thread nD τ) cc0_scratch0 fullShare f).symm) $$ Hs
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists f; iexact Hs
  iintro ⟨H0, H1, H2, H3, H4, H5, ⟨%g, Hs⟩⟩
  ihave Hs := (Entails.of_eq (owns_whole (c : Thread nD τ) cc0_scratch0 fullShare g)) $$ Hs
  isplitl [Hs HP]
  · isplitl [Hs]
    · iexists g; iexact Hs
    iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim at any floats: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KI

end
-- ==== Proof.Math.lean ====
/-
  The mathematics of the two programs' probabilities, over the extended reals: the kernel's masked exponentials
  `2^(tanh a · 50 / ln 2)` divided by their sum, and the reference's softmax of the capped, masked scores taken at its
  row's maximum, scaled by 256 and clipped, are the same numbers.
-/
module

public import Idealize.ShloMosaic.PureOps.Ideal.Laws
public import Idealize.ShloMosaic.Lib.IdealHost

@[expose] public section

noncomputable section

namespace Cert.Proof.Attn

open Idealize.ShloMosaic

/-- The range of the probability codes. -/
def clip (x : EReal) : EReal := min (Ideal.ofBits .f32 0x43E00000#32) (max (Ideal.ofBits .f32 0xC3E00000#32) x)

/-- The constant `50 / ln 2`. -/
def capLog : EReal := ((50 * (Real.log 2)⁻¹ : ℝ) : EReal)

/-- The kernel's masked exponential of query `s` and key `t` at score arguments `a`. -/
def eK (s : ℕ) (a : Fin 4096 → EReal) (t : Fin 4096) : EReal :=
  if t.val ≤ s then Ideal.exp2 (Ideal.tanh (a t) * capLog) else 0

/-- The kernel's probability code. -/
def pK (s : ℕ) (a : Fin 4096 → EReal) (t : Fin 4096) : EReal :=
  clip (eK s a t * Ideal.div (Ideal.ofBits .f32 0x43800000#32) (∑ u, eK s a u))

/-- The reference's masked score. -/
def sc (s : ℕ) (a : Fin 4096 → EReal) (t : Fin 4096) : EReal :=
  if t.val ≤ s then Ideal.ofBits .f32 0x42480000#32 * Ideal.tanh (a t) else Ideal.ofBits .f32 0xFF800000#32

/-- Its row's maximum. -/
def mx (s : ℕ) (a : Fin 4096 → EReal) : EReal :=
  max (Ideal.ofBits .f32 0xFF800000#32) ((Finset.univ : Finset (Fin 4096)).fold max (Ideal.ofBits .f32 0xFF800000#32) (sc s a))

/-- Its exponential. -/
def ex (s : ℕ) (a : Fin 4096 → EReal) (t : Fin 4096) : EReal := Ideal.exp (sc s a t - mx s a)

/-- The reference's probability code. -/
def pR (s : ℕ) (a : Fin 4096 → EReal) (t : Fin 4096) : EReal :=
  clip (Ideal.div (ex s a t) (∑ u, ex s a u) * Ideal.ofBits .f32 0x43800000#32)

theorem c256 : Ideal.ofBits .f32 0x43800000#32 = ((256 : ℝ) : EReal) := by
  simp [Ideal.ofBits, Ideal.ieee, -EReal.coe_mul]; norm_num

theorem c50 : Ideal.ofBits .f32 0x42480000#32 = ((50 : ℝ) : EReal) := by
  simp [Ideal.ofBits, Ideal.ieee, -EReal.coe_mul]; norm_num

theorem cbot : Ideal.ofBits .f32 0xFF800000#32 = (⊥ : EReal) := by
  simp [Ideal.ofBits, Ideal.ieee]

/-- A hyperbolic tangent is a real number. -/
theorem tanh_real (x : EReal) : ∃ θ : ℝ, Ideal.tanh x = (θ : EReal) := by
  induction x with
  | bot => exact ⟨-1, by simp⟩
  | top => exact ⟨1, by simp⟩
  | coe r => exact ⟨Real.tanh r, rfl⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The kernel's exponentials as reals. -/
theorem eK_real (s : ℕ) (a : Fin 4096 → EReal) (θ : Fin 4096 → ℝ) (hθ : ∀ t, Ideal.tanh (a t) = (θ t : EReal)) (t : Fin 4096) :
    eK s a t = ((if t.val ≤ s then Real.exp (50 * θ t) else 0 : ℝ) : EReal) := by
  unfold eK
  split
  · rw [hθ, capLog, ← EReal.coe_mul, Ideal.exp2_coe]
    refine congrArg _ ?_
    show (2 : ℝ) ^ (θ t * (50 * (Real.log 2)⁻¹)) = _
    rw [Real.rpow_def_of_pos (by norm_num)]
    refine congrArg _ ?_
    have : Real.log 2 ≠ 0 := (Real.log_pos (by norm_num)).ne'
    field_simp
  · rfl

/-- The row's maximum is a real number. -/
theorem mx_real (s : ℕ) (hs : s < 4096) (a : Fin 4096 → EReal) (θ : Fin 4096 → ℝ) (hθ : ∀ t, Ideal.tanh (a t) = (θ t : EReal)) :
    ∃ M : ℝ, mx s a = (M : EReal) := by
  have hsc : ∀ t, sc s a t < ⊤ := fun t => by
    unfold sc; split
    · rw [hθ, c50, ← EReal.coe_mul]; exact EReal.coe_lt_top _
    · rw [cbot]; exact bot_lt_top
  have h1 : mx s a < ⊤ := by
    unfold mx
    rw [cbot]
    refine max_lt bot_lt_top ?_
    rw [Finset.fold_max_lt]
    exact ⟨bot_lt_top, fun t _ => hsc t⟩
  have h2 : ⊥ < mx s a := by
    unfold mx
    refine lt_max_of_lt_right ?_
    rw [Finset.lt_fold_max]
    refine Or.inr ⟨⟨s, hs⟩, Finset.mem_univ _, ?_⟩
    unfold sc
    rw [if_pos (Nat.le_refl _), hθ, c50, ← EReal.coe_mul]; exact EReal.bot_lt_coe _
  exact ⟨(mx s a).toReal, (EReal.coe_toReal h1.ne h2.ne').symm⟩

/-- The reference's exponentials as reals. -/
theorem ex_real (s : ℕ) (a : Fin 4096 → EReal) (θ : Fin 4096 → ℝ) (hθ : ∀ t, Ideal.tanh (a t) = (θ t : EReal))
    (M : ℝ) (hM : mx s a = (M : EReal)) (t : Fin 4096) :
    ex s a t = (((if t.val ≤ s then Real.exp (50 * θ t) else 0) * (Real.exp M)⁻¹ : ℝ) : EReal) := by
  unfold ex sc
  rw [hM]
  split
  · rw [hθ, c50, ← EReal.coe_mul, ← EReal.coe_sub, Ideal.exp_coe, Real.exp_sub]; rfl
  · rw [cbot, EReal.bot_sub, Ideal.exp_bot, zero_mul]; rfl

/-- The two programs' probability codes are equal. -/
theorem pK_eq_pR (s : ℕ) (hs : s < 4096) (a : Fin 4096 → EReal) (t : Fin 4096) : pK s a t = pR s a t := by
  choose θ hθ using fun t => tanh_real (a t)
  obtain ⟨M, hM⟩ := mx_real s hs a θ hθ
  have hpos : 0 < ∑ u : Fin 4096, (if u.val ≤ s then Real.exp (50 * θ u) else 0 : ℝ) := by
    refine Finset.sum_pos' (fun u _ => ?_) ⟨⟨s, hs⟩, Finset.mem_univ _, ?_⟩
    · split
      · exact (Real.exp_pos _).le
      · exact le_rfl
    · rw [if_pos (Nat.le_refl _)]; exact Real.exp_pos _
  have hM0 : Real.exp M ≠ 0 := (Real.exp_pos M).ne'
  unfold pK pR
  refine congrArg clip ?_
  simp only [eK_real s a θ hθ, ex_real s a θ hθ M hM, c256, coe_sum]
  rw [Ideal.div_coe hpos.ne', ← Finset.sum_mul, Ideal.div_coe (mul_ne_zero hpos.ne' (inv_ne_zero hM0)),
    ← EReal.coe_mul, ← EReal.coe_mul, ← EReal.coe_mul, ← EReal.coe_mul]
  refine congrArg _ ?_
  have h0 := hpos.ne'
  generalize (∑ u : Fin 4096, (if u.val ≤ s then Real.exp (50 * θ u) else 0 : ℝ)) = L at h0 ⊢
  generalize (if t.val ≤ s then Real.exp (50 * θ t) else 0 : ℝ) = E
  field_simp

/-- A masked key's exponential is zero, -/
theorem eK_masked (s : ℕ) (a : Fin 4096 → EReal) (t : Fin 4096) (h : s < t.val) : eK s a t = 0 := if_neg (Nat.not_le.2 h)

/-- and so is its code. -/
theorem pK_masked (s : ℕ) (a : Fin 4096 → EReal) (t : Fin 4096) (h : s < t.val) : pK s a t = 0 := by
  unfold pK
  rw [eK_masked s a t h, zero_mul]
  unfold clip
  simp [Ideal.ofBits, Ideal.ieee, -EReal.coe_mul]

/-- The sum over the first `512 (k + 1)` keys splits off block `k`'s. -/
theorem sum_blocks (f : Fin 4096 → EReal) (k : ℕ) (hk : k < 8) :
    ∑ t ∈ Finset.univ.filter (fun t : Fin 4096 => t.val < 512 * (k + 1)), f t
      = ∑ t ∈ Finset.univ.filter (fun t : Fin 4096 => t.val < 512 * k), f t
        + ∑ c : Fin 512, f ⟨512 * k + c.val, by have := c.isLt; omega⟩ := by
  classical
  have himg : ∑ c : Fin 512, f ⟨512 * k + c.val, by have := c.isLt; omega⟩
      = ∑ t ∈ Finset.univ.filter (fun t : Fin 4096 => 512 * k ≤ t.val ∧ t.val < 512 * (k + 1)), f t := by
    refine Finset.sum_bij (fun c _ => ⟨512 * k + c.val, by have := c.isLt; omega⟩) ?_ ?_ ?_ ?_
    · intro c _
      have := c.isLt
      simp only [Finset.mem_filter, Finset.mem_univ, true_and]; omega
    · intro c _ c' _ h
      simp only [Fin.mk.injEq] at h; exact Fin.ext (by omega)
    · intro t ht
      simp only [Finset.mem_filter, Finset.mem_univ, true_and] at ht
      exact ⟨⟨t.val - 512 * k, by omega⟩, Finset.mem_univ _, Fin.ext (by show 512 * k + (t.val - 512 * k) = t.val; omega)⟩
    · intro c _; rfl
  rw [himg, ← Finset.sum_union]
  · refine Finset.sum_congr (Finset.ext fun t => ?_) fun _ _ => rfl
    simp only [Finset.mem_filter, Finset.mem_univ, true_and, Finset.mem_union]; omega
  · refine Finset.disjoint_left.2 fun t h1 h2 => ?_
    simp only [Finset.mem_filter, Finset.mem_univ, true_and] at h1 h2; omega

/-- A sum over the first keys is the sum over all of them when the rest are zero. -/
theorem sum_first (f : Fin 4096 → EReal) (n : ℕ) (h : ∀ t : Fin 4096, n ≤ t.val → f t = 0) :
    ∑ t ∈ Finset.univ.filter (fun t : Fin 4096 => t.val < n), f t = ∑ t, f t :=
  Finset.sum_subset (Finset.filter_subset _ _) fun t _ ht =>
    h t (by simpa only [Finset.mem_filter, Finset.mem_univ, true_and, Nat.not_lt] using ht)

end Cert.Proof.Attn

end
-- ==== Proof.KIPay.lean ====
/-
  The kernel body's closed forms read at an index, at exact arithmetic: the stacked queries, their multipliers, the masked
  exponentials of a key block, the row sums and the output accumulator.
-/
module

public import proofs.«01_k».proof.Proof.KIBody
public import proofs.«01_k».proof.Proof.Math
public import Idealize.ShloMosaic.Lib.Pointwise
public import Idealize.ShloMosaic.Lib.Pipeline.ValueKit
public import Idealize.ShloMosaic.PureOps.IdealRules

@[expose] public section

set_option maxRecDepth 16384

noncomputable section

namespace Cert.Proof.KI

open Cert.KernelIdeal Cert.KernelIdeal.Gen Cert.Proof.Attn
open Idealize.ShloMosaic Idealize.ShloMosaic.TcCoe Idealize.ShloMosaic.Tactic

/-- Row `128 g + r` of the stacked queries. -/
abbrev row (g : Fin 4) (r : Fin 128) : Fin 512 := ⟨128 * g.val + r.val, by have := g.isLt; have := r.isLt; omega⟩

/-- The stacked queries at row `128 g + r` are group member `g`'s at query `r`. -/
theorem qv_apply (x5 : Vec Ideal S1x128x512 .fp8e4m3) (g : Fin 4) (r c : Fin 128) :
    qv x5 (ix2 (row g r) c) = x5 (ix3 0 r (row g c)) := by
  have hr := r.isLt
  match g with
  | ⟨0, _⟩ => pointwise [qv, k0_pay8, row]
  | ⟨1, _⟩ => pointwise [qv, k0_pay8, row]
  | ⟨2, _⟩ =>
    pointwise [qv, k0_pay8, row]
    rw [dif_neg (by omega), dif_neg (by omega), dif_pos (by omega)]
    congr 2; exact Fin.ext (by show 256 + r.val - 128 - 128 = r.val; omega)
  | ⟨3, _⟩ =>
    pointwise [qv, k0_pay8, row]
    rw [dif_neg (by omega), dif_neg (by omega), dif_neg (by omega)]
    congr 2; exact Fin.ext (by show 384 + r.val - 128 - 128 - 128 = r.val; omega)

/-- The score multiplier of row `128 g + r` is the key head's and group member `g`'s. -/
theorem c1v_apply (i : grid0.Coords) (x3 : Vec Ideal S2x4 .f32) (g : Fin 4) (r : Fin 128) :
    c1v i x3 (ix2 (row g r) 0) = x3 (ix2 (i 1) g) := by
  have hr := r.isLt
  match g with
  | ⟨0, _⟩ => pointwise [c1v, k0_pay9, row, k0_off1_eq]
  | ⟨1, _⟩ => pointwise [c1v, k0_pay9, row, k0_off2_eq]
  | ⟨2, _⟩ =>
    pointwise [c1v, k0_pay9, row, k0_off3_eq]
    rw [dif_neg (by omega), dif_neg (by omega), dif_pos (by omega)]
  | ⟨3, _⟩ =>
    pointwise [c1v, k0_pay9, row, k0_off4_eq]
    rw [dif_neg (by omega), dif_neg (by omega), dif_neg (by omega)]

/-- The output multiplier is the key head's. -/
theorem oscv_apply (i : grid0.Coords) (x4 : Vec Ideal S2 .f32) : oscv i x4 = x4 (ix1 (i 1)) := by
  pointwise [oscv, k0_off13_eq]

/-- The word of key `512 k + C`. -/
theorem key_word (k C : ℕ) : IntOp.addi (Scalar.muli (Scf.iv 0#32 1#32 k) 512#32) (BitVec.ofNat 32 C) = BitVec.ofNat 32 (512 * k + C) := by
  show (0#32 + BitVec.ofNat 32 k * 1#32) * 512#32 + BitVec.ofNat 32 C = _
  apply BitVec.eq_of_toNat_eq
  simp; omega

/-- The word of query `128 a + r`. -/
theorem query_word (a r : ℕ) : IntOp.addi (Scalar.muli (BitVec.ofNat 32 a) 128#32) (BitVec.ofNat 32 r) = BitVec.ofNat 32 (128 * a + r) := by
  show BitVec.ofNat 32 a * 128#32 + BitVec.ofNat 32 r = _
  apply BitVec.eq_of_toNat_eq
  simp; omega

/-- Row `R`'s query within its block, as the body computes it. -/
theorem rem_word (R : Fin 512) : Scalar.select
    (IntOp.andi
      (IntOp.xori
        (IntOp.cmpi CmpIPredicate.slt
          (IntOp.remsi ArithUnit.vector (BitVec.ofNat 32 R.val) (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 R.val) (Scalar.select (Scalar.cmpi CmpIPredicate.eq 128#32 0#32) 1#32 128#32)) 0#32))
    (IntOp.addi
      (IntOp.remsi ArithUnit.vector (BitVec.ofNat 32 R.val) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 R.val) (Scalar.select (Scalar.cmpi CmpIPredicate.eq 128#32 0#32) 1#32 128#32))
      = BitVec.ofNat 32 (R.val % 128) := by
  revert R; decide +kernel

/-- The capped exponential's constant at exact arithmetic. -/
theorem named_cap : (Named.named κ "cap_log2e" 0x429044FE#32 : Ideal .f32) = capLog :=
  IdealRules.named_const.ideal_named_scalar _ _ _ _ rfl

/-- A masked exponential of a key block at an index. -/
theorem pay12_apply (i : grid0.Coords) (a : ℕ) (ha : a < 32) (v8 : FVec Ideal S512x128 .fp8e4m3) (v21 : FVec Ideal S512x1 .f32)
    (k : Fin (k0_t1_loop i).trips) (v : Vec Ideal S1x512x128 .fp8e4m3) (R C : Fin 512) :
    k0_pay12 i (BitVec.ofNat 32 a) v8 v21 k v (ix2 R C)
      = if 512 * k.val + C.val ≤ 128 * a + R.val % 128 then
          Ideal.exp2 (Ideal.tanh ((∑ x, v8 (ix2 R x) * v (ix3 0 C x)) * v21 (ix2 R 0)) * capLog) else 0 := by
  have hk := k.isLt
  have ht := (k0_t1_abs i).2.1
  have hC := C.isLt
  pointwise [k0_pay12, k0_pay10]
  rw [key_word, rem_word R, query_word, WordCmp.cmpi_sle_ofNat (by omega) (by omega), named_cap, WordCmp.select_decide]
  rfl

/-- The row sums after one more key block. -/
theorem pay14_apply (i : grid0.Coords) (a : BitVec 32) (v8 : FVec Ideal S512x128 .fp8e4m3) (v21 : FVec Ideal S512x1 .f32)
    (k : Fin (k0_t1_loop i).trips) (acc : FVec Ideal S512x1 .f32) (v : Vec Ideal S1x512x128 .fp8e4m3) (R : Fin 512) :
    k0_pay14 i a v8 v21 k acc v (ix2 R 0)
      = acc (ix2 R 0) + ∑ C : Fin 512, k0_pay12 i a v8 v21 k v (ix2 R C) := by
  pointwise [k0_pay14]

/-- The output accumulator after one more key block. -/
theorem pay1_apply (v73 : FVec Ideal S512x1 .f32) (acc : FVec Ideal S512x128 .f32) (e : Vec Ideal S512x512 .f32)
    (v : Vec Ideal S1x512x128 .fp8e4m3) (R : Fin 512) (d : Fin 128) :
    k0_pay1 v73 acc e v (ix2 R d) = acc (ix2 R d) + ∑ C : Fin 512, clip (e (ix2 R C) * v73 (ix2 R 0)) * v (ix3 0 C d) := by
  pointwise [k0_pay1, clip]

/-- Both loops run over the key blocks up to the one holding the query block's last query. -/
theorem trips_eq (i : grid0.Coords) : (k0_t1_loop i).trips = (128 * (i 2).val + 639) / 512 := by
  show Scf.trips (k0_t1_loop i).lb (k0_t1_loop i).ub (k0_t1_loop i).st = _
  unfold k0_t1_loop
  generalize i 2 = a
  revert a
  show ∀ a : Fin 32, _
  decide +kernel

theorem trips3_eq (i : grid0.Coords) : (k0_t3_loop i).trips = (k0_t1_loop i).trips := rfl

/-- Trip `k`'s key block at an index: key `512 k + C`. -/
theorem ldK_apply (i : grid0.Coords) (x6 : Vec Ideal S1x4096x128 .fp8e4m3) (k : Fin (k0_t1_loop i).trips) (C : Fin 512) (d : Fin 128)
    (h : 512 * k.val + C.val < 4096) : View.ld x6 (rK i k) (ix3 0 C d) = x6 (ix3 0 ⟨512 * k.val + C.val, h⟩ d) := by
  pointwise [rK, k0_off5_eq]

/-- Trip `k`'s value block at an index. -/
theorem ldV_apply (i : grid0.Coords) (x7 : Vec Ideal S1x4096x128 .fp8e4m3) (k : Fin (k0_t3_loop i).trips) (C : Fin 512) (d : Fin 128)
    (h : 512 * k.val + C.val < 4096) : View.ld x7 (rV i k) (ix3 0 C d) = x7 (ix3 0 ⟨512 * k.val + C.val, h⟩ d) := by
  pointwise [rV, k0_off10_eq]

/-- The score arguments of row `R`. -/
def arg (v8 : FVec Ideal S512x128 .fp8e4m3) (v21 : FVec Ideal S512x1 .f32) (x6 : Vec Ideal S1x4096x128 .fp8e4m3) (R : Fin 512)
    (t : Fin 4096) : EReal := (∑ x, v8 (ix2 R x) * x6 (ix3 0 t x)) * v21 (ix2 R 0)

/-- A masked exponential of key block `k`, read off the whole row. -/
theorem pay12_row (i : grid0.Coords) (a : ℕ) (ha : a < 32) (v8 : FVec Ideal S512x128 .fp8e4m3) (v21 : FVec Ideal S512x1 .f32)
    (x6 : Vec Ideal S1x4096x128 .fp8e4m3) (k : Fin (k0_t1_loop i).trips) (R C : Fin 512) (h : 512 * k.val + C.val < 4096) :
    k0_pay12 i (BitVec.ofNat 32 a) v8 v21 k (View.ld x6 (rK i k)) (ix2 R C)
      = eK (128 * a + R.val % 128) (arg v8 v21 x6 R) ⟨512 * k.val + C.val, h⟩ := by
  rw [pay12_apply i a ha]
  unfold eK arg
  refine if_congr Iff.rfl (congrArg (fun z => Ideal.exp2 (Ideal.tanh (z * v21 (ix2 R 0)) * capLog)) ?_) rfl
  exact Finset.sum_congr rfl fun x _ => congrArg (v8 (ix2 R x) * ·) (ldK_apply i x6 k C x h)

/-- The same of the block the scratch holds. -/
theorem eblk_row (i : grid0.Coords) (a : ℕ) (ha : a < 32) (v8 : FVec Ideal S512x128 .fp8e4m3) (v21 : FVec Ideal S512x1 .f32)
    (x6 : Vec Ideal S1x4096x128 .fp8e4m3) (k : Fin (k0_t1_loop i).trips) (R C : Fin 512) (h : 512 * k.val + C.val < 4096) :
    eblk i (BitVec.ofNat 32 a) v8 v21 x6 k (ix2 R C)
      = eK (128 * a + R.val % 128) (arg v8 v21 x6 R) ⟨512 * k.val + C.val, h⟩ := by
  rw [← pay12_row i a ha v8 v21 x6 k R C h]
  unfold eblk
  pointwise [k0_pay13]

theorem pay11_apply (R : Fin 512) : (k0_pay11 (F := Ideal)) (ix2 R 0) = 0 := by
  pointwise [k0_pay11]

theorem pay19_apply (R : Fin 512) (d : Fin 128) : (k0_pay19 (F := Ideal)) (ix2 R d) = 0 := by
  pointwise [k0_pay19]

theorem pay18_apply (v : FVec Ideal S512x1 .f32) (R : Fin 512) :
    k0_pay18 v (ix2 R 0) = Ideal.div (Ideal.ofBits .f32 0x43800000#32) (v (ix2 R 0)) := by
  pointwise [k0_pay18]

/-- The row sums after `k` trips are the sums over the first `512 k` keys. -/
theorem lsum_apply (i : grid0.Coords) (a : ℕ) (ha : a < 32) (v8 : FVec Ideal S512x128 .fp8e4m3) (v21 : FVec Ideal S512x1 .f32)
    (x6 : Vec Ideal S1x4096x128 .fp8e4m3) (R : Fin 512) : ∀ k, k ≤ (k0_t1_loop i).trips →
    lsum i (BitVec.ofNat 32 a) v8 v21 x6 k0_pay11 k (ix2 R 0)
      = ∑ t ∈ Finset.univ.filter (fun t : Fin 4096 => t.val < 512 * k), eK (128 * a + R.val % 128) (arg v8 v21 x6 R) t
  | 0, _ => by
    refine (pay11_apply R).trans (Eq.symm (Finset.sum_eq_zero fun t ht => ?_))
    have := (Finset.mem_filter.mp ht).2; omega
  | k + 1, hk => by
    have ht := (k0_t1_abs i).2.1
    have e := lsum_succ i (BitVec.ofNat 32 a) v8 v21 x6 k0_pay11 ⟨k, hk⟩
    rw [show lsum i (BitVec.ofNat 32 a) v8 v21 x6 k0_pay11 (k + 1) = _ from e, pay14_apply,
      lsum_apply i a ha v8 v21 x6 R k (Nat.le_of_succ_le hk), sum_blocks _ k (by omega)]
    refine congrArg (_ + ·) (Finset.sum_congr rfl fun C _ => ?_)
    exact pay12_row i a ha v8 v21 x6 ⟨k, hk⟩ R C _

/-- The output accumulator after `k` trips is the sum over the first `512 k` keys. -/
theorem osum_apply (i : grid0.Coords) (v73 : FVec Ideal S512x1 .f32) (x7 : Vec Ideal S1x4096x128 .fp8e4m3)
    (x9 : Fin (k0_t3_loop i).trips → FVec Ideal S512x512 .f32) (R : Fin 512) (d : Fin 128) (p : Fin 4096 → EReal)
    (hp : ∀ (k : Fin (k0_t3_loop i).trips) (C : Fin 512) (h : 512 * k.val + C.val < 4096),
      clip (x9 k (ix2 R C) * v73 (ix2 R 0)) = p ⟨512 * k.val + C.val, h⟩) : ∀ k, k ≤ (k0_t3_loop i).trips →
    osum i v73 x7 x9 k0_pay19 k (ix2 R d)
      = ∑ t ∈ Finset.univ.filter (fun t : Fin 4096 => t.val < 512 * k), p t * x7 (ix3 0 t d)
  | 0, _ => by
    refine (pay19_apply R d).trans (Eq.symm (Finset.sum_eq_zero fun t ht => ?_))
    have := (Finset.mem_filter.mp ht).2; omega
  | k + 1, hk => by
    have ht : (k0_t3_loop i).trips ≤ 8 := (k0_t1_abs i).2.1
    have e := osum_succ i v73 x7 x9 k0_pay19 ⟨k, hk⟩
    rw [show osum i v73 x7 x9 k0_pay19 (k + 1) = _ from e, pay1_apply,
      osum_apply i v73 x7 x9 R d p hp k (Nat.le_of_succ_le hk), sum_blocks _ k (by omega)]
    refine congrArg (_ + ·) (Finset.sum_congr rfl fun C _ => ?_)
    have hC := C.isLt
    rw [hp ⟨k, hk⟩ C (by show 512 * k + C.val < 4096; omega), ldV_apply i x7 ⟨k, hk⟩ C d (by show 512 * k + C.val < 4096; omega)]

/-- The whole row's sum. -/
theorem lsum_whole (i : grid0.Coords) (v8 : FVec Ideal S512x128 .fp8e4m3) (v21 : FVec Ideal S512x1 .f32)
    (x6 : Vec Ideal S1x4096x128 .fp8e4m3) (R : Fin 512) :
    lsum i (BitVec.ofNat 32 (i 2).val) v8 v21 x6 k0_pay11 (k0_t1_loop i).trips (ix2 R 0)
      = ∑ t, eK (128 * (i 2).val + R.val % 128) (arg v8 v21 x6 R) t := by
  have hi : (i 2).val < 32 := (i 2).isLt
  rw [lsum_apply i _ hi v8 v21 x6 R _ le_rfl]
  refine sum_first _ _ fun t ht => eK_masked _ _ _ ?_
  rw [trips_eq] at ht
  omega

/-- The output accumulator of row `R`: the probability codes times the values. -/
theorem oacc_apply (i : grid0.Coords) (x3 : Vec Ideal S2x4 .f32) (x5 : Vec Ideal S1x128x512 .fp8e4m3) (x6 x7 : Vec Ideal S1x4096x128 .fp8e4m3)
    (R : Fin 512) (d : Fin 128) :
    oacc i x3 x5 x6 x7 (ix2 R d)
      = ∑ t, pK (128 * (i 2).val + R.val % 128) (arg (qv x5) (c1v i x3) x6 R) t * x7 (ix3 0 t d) := by
  have hi : (i 2).val < 32 := (i 2).isLt
  unfold oacc
  rw [osum_apply i (rv i x3 x5 x6) x7 _ R d (pK (128 * (i 2).val + R.val % 128) (arg (qv x5) (c1v i x3) x6 R)) ?_ _ le_rfl]
  · refine sum_first _ _ fun t ht => ?_
    rw [pK_masked _ _ _ ?_, zero_mul]
    rw [trips3_eq, trips_eq] at ht
    omega
  · intro k C h
    rw [eblk_row i _ hi (qv x5) (c1v i x3) x6 (as1 i k) R C h]
    unfold rv pK
    rw [pay18_apply, lsum_whole]

theorem pay4_apply (v : FVec Ideal S512x128 .f32) (s : Elt Ideal .f32) (r d : Fin 128) :
    k0_pay4 v s (ix3 0 r d) = v (ix2 (row 0 r) d) * s := by
  pointwise [k0_pay4, k0_pay3, row]
theorem pay5_apply (v : FVec Ideal S512x128 .f32) (s : Elt Ideal .f32) (r d : Fin 128) :
    k0_pay5 v s (ix3 0 r d) = v (ix2 (row 1 r) d) * s := by
  pointwise [k0_pay5, k0_pay3, row]
theorem pay6_apply (v : FVec Ideal S512x128 .f32) (s : Elt Ideal .f32) (r d : Fin 128) :
    k0_pay6 v s (ix3 0 r d) = v (ix2 (row 2 r) d) * s := by
  pointwise [k0_pay6, k0_pay3, row]
theorem pay7_apply (v : FVec Ideal S512x128 .f32) (s : Elt Ideal .f32) (r d : Fin 128) :
    k0_pay7 v s (ix3 0 r d) = v (ix2 (row 3 r) d) * s := by
  pointwise [k0_pay7, k0_pay3, row]

/-- A store of group member `n`'s rows, where it holds query `r` of group member `g`. -/
theorem tile (n : ℕ) (hn : n < 4) (w : Vec Ideal S1x128x128 .bf16) (g : Fin 4) (r d : Fin 128) (z : EReal)
    (hw : n = g.val → w (ix3 0 r d) = z) :
    View.TileAt (S := S1x128x512) (Val := Elt Ideal) (e := .bf16) (ix3 0 r (row g d)) ![0, 0, 128 * n] S1x128x128.size w z := fun x hx => by
  have h2 : 128 * g.val + d.val = 128 * n + (x 2).val := hx 2
  have h1 : r.val = 0 + (x 1).val := hx 1
  have b2 : (x 2).val < 128 := (x 2).isLt
  have hd := d.isLt
  rw [← hw (by omega)]
  congr 1
  funext b
  match b with
  | ⟨0, _⟩ => exact Subsingleton.elim (α := Fin 1) _ _
  | ⟨1, _⟩ => exact Fin.ext (by show (x 1).val = r.val; omega)
  | ⟨2, _⟩ => exact Fin.ext (by show (x 2).val = d.val; omega)

/-- The body's output block at query `r` of group member `g`, component `d`. -/
theorem outv_apply (i : grid0.Coords) (x3 : Vec Ideal S2x4 .f32) (x4 : Vec Ideal S2 .f32) (x5 : Vec Ideal S1x128x512 .fp8e4m3)
    (x6 x7 : Vec Ideal S1x4096x128 .fp8e4m3) (g : Fin 4) (r d : Fin 128) :
    outv i x3 x4 x5 x6 x7 (ix3 0 r (row g d)) = oacc i x3 x5 x6 x7 (ix2 (row g r) d) * oscv i x4 := by
  unfold outv
  refine View.canon_eq_of_allAt _ _ _ (cover _ _ _ _ _) ?_
  refine View.allAt_cons_unit _ _ _ _ _ (tile 3 (by omega) _ g r d _ fun h => ?_)
    (View.allAt_cons_unit _ _ _ _ _ (tile 2 (by omega) _ g r d _ fun h => ?_)
    (View.allAt_cons_unit _ _ _ _ _ (tile 1 (by omega) _ g r d _ fun h => ?_)
    (View.allAt_cons_unit _ _ _ _ _ (tile 0 (by omega) _ g r d _ fun h => ?_) (View.allAt_nil _ _))))
  · obtain rfl : g = 3 := Fin.ext h.symm
    exact pay7_apply _ _ r d
  · obtain rfl : g = 2 := Fin.ext h.symm
    exact pay6_apply _ _ r d
  · obtain rfl : g = 1 := Fin.ext h.symm
    exact pay5_apply _ _ r d
  · obtain rfl : g = 0 := Fin.ext h.symm
    exact pay4_apply _ _ r d

end Cert.Proof.KI

end
-- ==== Proof.Spec.lean ====
/-
  What both programs compute, element by element: causal attention over quantised codes with a capped score, read at a
  batch row, a query, a key head, a group member of that head and a component.
-/
module

public import proofs.«01_k».proof.Proof.Math
public import Idealize.ShloMosaic.Lib.Pointwise

@[expose] public section

noncomputable section

namespace Cert.Proof.Attn

open Idealize.ShloMosaic

/-- Head `j` of a token's row of `n` codes: its `c`-th. -/
abbrev qcol (h : Fin 2) (g : Fin 4) (c : Fin 128) : Fin 1024 :=
  ⟨512 * h.val + 128 * g.val + c.val, by have := h.isLt; have := g.isLt; have := c.isLt; omega⟩
/-- Key head `h`'s `c`-th code of a token's row. -/
abbrev kcol (h : Fin 2) (c : Fin 128) : Fin 256 := ⟨128 * h.val + c.val, by have := h.isLt; have := c.isLt; omega⟩
/-- Query head `4 h + g`. -/
abbrev qhead (h : Fin 2) (g : Fin 4) : Fin 8 := ⟨4 * h.val + g.val, by have := h.isLt; have := g.isLt; omega⟩

/-- The capped score's argument of query `s` and key `t`. -/
def score (x : (⟨3, ![8, 4096, 1024]⟩ : Shape).Idx → EReal) (qs : (⟨1, ![8]⟩ : Shape).Idx → EReal)
    (k : (⟨3, ![8, 4096, 256]⟩ : Shape).Idx → EReal) (ks : (⟨1, ![2]⟩ : Shape).Idx → EReal)
    (b : Fin 8) (s : Fin 4096) (h : Fin 2) (g : Fin 4) (t : Fin 4096) : EReal :=
  (∑ c : Fin 128, x (ix3 b s (qcol h g c)) * k (ix3 b t (kcol h c)))
    * Ideal.div ((qs (ix1 (qhead h g)) * ks (ix1 h)) * Ideal.ofBits .f32 0x3DB504F3#32) (Ideal.ofBits .f32 0x42480000#32)

/-- The attention output of query `s`, component `d`. -/
def attn (x : (⟨3, ![8, 4096, 1024]⟩ : Shape).Idx → EReal) (qs : (⟨1, ![8]⟩ : Shape).Idx → EReal)
    (k : (⟨3, ![8, 4096, 256]⟩ : Shape).Idx → EReal) (ks : (⟨1, ![2]⟩ : Shape).Idx → EReal)
    (v : (⟨3, ![8, 4096, 256]⟩ : Shape).Idx → EReal) (vs : (⟨1, ![2]⟩ : Shape).Idx → EReal)
    (b : Fin 8) (s : Fin 4096) (h : Fin 2) (g : Fin 4) (d : Fin 128) : EReal :=
  (∑ t, pK s.val (score x qs k ks b s h g) t * v (ix3 b t (kcol h d))) * (Ideal.ofBits .f32 0x3B800000#32 * vs (ix1 h))

/-- A column of the output is a component of a group member of a key head. -/
theorem qcol_onto (q : Fin 1024) : ∃ h g d, q = qcol h g d :=
  ⟨⟨q.val / 512, by have := q.isLt; omega⟩, ⟨q.val % 512 / 128, by omega⟩, ⟨q.val % 128, by omega⟩,
    Fin.ext (by show q.val = 512 * (q.val / 512) + 128 * (q.val % 512 / 128) + q.val % 128; omega)⟩

end Cert.Proof.Attn

end
-- ==== Proof.KIValue.lean ====
/-
  The kernel's output array after the whole grid, at exact arithmetic: the attention output of every batch row, query,
  head and component.
-/
module

public import proofs.«01_k».proof.Proof.KIPay
public import proofs.«01_k».proof.Proof.KIRun
public import proofs.«01_k».proof.Proof.Spec
public import Idealize.ShloMosaic.Lib.Claim
public import Idealize.ShloMosaic.Lib.StableHlo.ReadAt

@[expose] public section

set_option maxRecDepth 16384

noncomputable section

namespace Cert.Proof.KI

open Cert.KernelIdeal Cert.KernelIdeal.Gen Cert.Proof.Attn
open Idealize.ShloMosaic Idealize.ShloMosaic.TcCoe Idealize.ShloMosaic.Tactic
open Idealize.SL Idealize.SL.RA Idealize.SL.BI

variable (m : ∀ l : Loc nD τ sig, Buf (Elt Ideal) l)

/-- The six argument arrays on a device. -/
abbrev a0 (c : Dev nD) : (⟨3, ![8, 4096, 1024]⟩ : Shape).Idx → EReal := m (c, main_arg0)
abbrev a1 (c : Dev nD) : (⟨1, ![8]⟩ : Shape).Idx → EReal := m (c, main_arg1)
abbrev a2 (c : Dev nD) : (⟨3, ![8, 4096, 256]⟩ : Shape).Idx → EReal := m (c, main_arg2)
abbrev a3 (c : Dev nD) : (⟨1, ![2]⟩ : Shape).Idx → EReal := m (c, main_arg3)
abbrev a4 (c : Dev nD) : (⟨3, ![8, 4096, 256]⟩ : Shape).Idx → EReal := m (c, main_arg4)
abbrev a5 (c : Dev nD) : (⟨1, ![2]⟩ : Shape).Idx → EReal := m (c, main_arg5)

/-- The score multipliers the launch reads. -/
theorem v7_apply (c : Dev nD) (h : Fin 2) (g : Fin 4) : V m c main_v7 (ix2 h g)
    = Ideal.div ((a1 m c (ix1 (qhead h g)) * a3 m c (ix1 h)) * Ideal.ofBits .f32 0x3DB504F3#32)
        (Ideal.ofBits .f32 0x42480000#32) := by
  unfold V
  after_reads_at
  have e : (⟨h.val * 4 + g.val, by have := h.isLt; have := g.isLt; omega⟩ : Fin 8) = qhead h g :=
    Fin.ext (by show h.val * 4 + g.val = 4 * h.val + g.val; omega)
  exact congrArg (fun z : Fin 8 => Ideal.div ((a1 m c (ix1 z) * a3 m c (ix1 h)) * Ideal.ofBits .f32 0x3DB504F3#32)
        (Ideal.ofBits .f32 0x42480000#32)) e

/-- The output multipliers the launch reads. -/
theorem v9_apply (c : Dev nD) (h : Fin 2) : V m c main_v9 (ix1 h)
    = Ideal.ofBits .f32 0x3B800000#32 * a5 m c (ix1 h) := by
  unfold V
  after_reads_at

theorem arg0_apply (c : Dev nD) (j : S8x4096x1024.Idx) : V m c main_arg0 j = a0 m c j := by
  unfold V
  after_reads_at
theorem arg2_apply (c : Dev nD) (j : S8x4096x256.Idx) : V m c main_arg2 j = a2 m c j := by
  unfold V
  after_reads_at
theorem arg4_apply (c : Dev nD) (j : S8x4096x256.Idx) : V m c main_arg4 j = a4 m c j := by
  unfold V
  after_reads_at

theorem ix_0 : ∀ t : Fin cfg0.N, win0_0.index t = ![0, 0] := (by decide +kernel : ∀ t : Fin grid0.N, _)
theorem ix_1 : ∀ t : Fin cfg0.N, win0_1.index t = ![0] := (by decide +kernel : ∀ t : Fin grid0.N, _)
theorem ix_2 : ∀ t : Fin cfg0.N, win0_2.index t = ![(grid0.coords t 0).val, (grid0.coords t 2).val, (grid0.coords t 1).val] :=
  (by decide +kernel : ∀ t : Fin grid0.N, _)
theorem ix_3 : ∀ t : Fin cfg0.N, win0_3.index t = ![(grid0.coords t 0).val, 0, (grid0.coords t 1).val] :=
  (by decide +kernel : ∀ t : Fin grid0.N, _)
theorem ix_4 : ∀ t : Fin cfg0.N, win0_4.index t = ![(grid0.coords t 0).val, 0, (grid0.coords t 1).val] :=
  (by decide +kernel : ∀ t : Fin grid0.N, _)
theorem ix_5 : ∀ t : Fin cfg0.N, win0_5.index t = ![(grid0.coords t 0).val, (grid0.coords t 2).val, (grid0.coords t 1).val] :=
  (by decide +kernel : ∀ t : Fin grid0.N, _)

theorem rd0 (c : Dev nD) (t : Fin cfg0.N) (h : Fin 2) (g : Fin 4) :
    iblk m c 0 t (ix2 h g) = V m c main_v7 (ix2 h g) := by
  blk_ext [iblk, ix_0 t]

theorem rd1 (c : Dev nD) (t : Fin cfg0.N) (h : Fin 2) :
    iblk m c 1 t (ix1 h) = V m c main_v9 (ix1 h) := by
  blk_ext [iblk, ix_1 t]

/-- Every point's batch row, key head and query block. -/
abbrev pb (t : Fin cfg0.N) : Fin 8 := grid0.coords t 0
abbrev ph (t : Fin cfg0.N) : Fin 2 := grid0.coords t 1
abbrev pq (t : Fin cfg0.N) (r : Fin 128) : Fin 4096 :=
  ⟨128 * (grid0.coords t 2).val + r.val, by have h : (grid0.coords t 2).val < 32 := (grid0.coords t 2).isLt; have := r.isLt; omega⟩

theorem rd2 (c : Dev nD) (t : Fin cfg0.N) (r : Fin 128) (g : Fin 4) (x : Fin 128) :
    iblk m c 2 t (ix3 0 r (row g x)) = V m c main_arg0 (ix3 (pb t) (pq t r) (qcol (ph t) g x)) := by
  blk_ext [iblk, ix_2 t, pb, ph, pq]

theorem rd3 (c : Dev nD) (t : Fin cfg0.N) (u : Fin 4096) (x : Fin 128) :
    iblk m c 3 t (ix3 0 u x) = V m c main_arg2 (ix3 (pb t) u (kcol (ph t) x)) := by
  blk_ext [iblk, ix_3 t, pb, ph, pq]

theorem rd4 (c : Dev nD) (t : Fin cfg0.N) (u : Fin 4096) (x : Fin 128) :
    iblk m c 4 t (ix3 0 u x) = V m c main_arg4 (ix3 (pb t) u (kcol (ph t) x)) := by
  blk_ext [iblk, ix_4 t, pb, ph, pq]

/-- What the body leaves in its output block: the attention output of the block's queries. -/
theorem block_apply (c : Dev nD) (t : Fin cfg0.N) (g : Fin 4) (r d : Fin 128) :
    outv (grid0.coords t) (iblk m c 0 t) (iblk m c 1 t) (iblk m c 2 t) (iblk m c 3 t) (iblk m c 4 t) (ix3 0 r (row g d))
      = attn (a0 m c) (a1 m c) (a2 m c) (a3 m c) (a4 m c) (a5 m c) (pb t) (pq t r) (ph t) g d := by
  rw [outv_apply, oacc_apply, oscv_apply]
  have hr := r.isLt
  have hs : 128 * (grid0.coords t 2).val + (row g r).val % 128 = (pq t r).val := by
    show 128 * (grid0.coords t 2).val + (128 * g.val + r.val) % 128 = 128 * (grid0.coords t 2).val + r.val
    omega
  have ha : arg (qv (iblk m c 2 t)) (c1v (grid0.coords t) (iblk m c 0 t)) (iblk m c 3 t) (row g r)
      = score (a0 m c) (a1 m c) (a2 m c) (a3 m c) (pb t) (pq t r) (ph t) g := by
    funext u
    unfold arg score
    rw [c1v_apply]
    refine congrArg₂ (· * ·) (Finset.sum_congr rfl fun x _ => ?_) ?_
    · rw [qv_apply]
      exact congrArg₂ (· * ·) ((rd2 m c t r g x).trans (arg0_apply m c _)) ((rd3 m c t u x).trans (arg2_apply m c _))
    · exact (rd0 m c t (ph t) g).trans (v7_apply m c (ph t) g)
  unfold attn
  rw [hs, ha]
  refine congrArg₂ (· * ·) (Finset.sum_congr rfl fun u _ => ?_) ?_
  · exact congrArg (_ * ·) ((rd4 m c t u d).trans (arg4_apply m c _))
  · exact (rd1 m c t (ph t)).trans (v9_apply m c (ph t))

/-- The attention output as an array. -/
def G (c : Dev nD) : S8x4096x1024.Idx → EReal := fun j =>
  attn (a0 m c) (a1 m c) (a2 m c) (a3 m c) (a4 m c) (a5 m c) (j 0) (j 1)
    ⟨(j 2).val / 512, by have h : (j 2).val < 1024 := (j 2).isLt; omega⟩ ⟨(j 2).val % 512 / 128, by omega⟩ ⟨(j 2).val % 128, by omega⟩

theorem G_apply (c : Dev nD) (b : Fin 8) (s : Fin 4096) (h : Fin 2) (g : Fin 4) (d : Fin 128) :
    G m c (ix3 b s (qcol h g d)) = attn (a0 m c) (a1 m c) (a2 m c) (a3 m c) (a4 m c) (a5 m c) b s h g d := by
  have h2 := h.isLt; have hg := g.isLt; have hd := d.isLt
  show attn _ _ _ _ _ _ b s ⟨(512 * h.val + 128 * g.val + d.val) / 512, _⟩ ⟨(512 * h.val + 128 * g.val + d.val) % 512 / 128, _⟩
    ⟨(512 * h.val + 128 * g.val + d.val) % 128, _⟩ = _
  congr 1 <;> exact Fin.ext (by dsimp only; omega)

/-- An index of the output block is a query of a group member and a component. -/
theorem blk_onto (y : S1x128x512.Idx) : ∃ r g d, y = ix3 0 r (row g d) := by
  have h2 : (y 2).val < 512 := (y 2).isLt
  refine ⟨y 1, ⟨(y 2).val / 128, by omega⟩, ⟨(y 2).val % 128, by omega⟩, ?_⟩
  funext b
  match b with
  | ⟨0, _⟩ => exact Subsingleton.elim (α := Fin 1) _ _
  | ⟨1, _⟩ => rfl
  | ⟨2, _⟩ => exact Fin.ext (by show (y 2).val = 128 * ((y 2).val / 128) + (y 2).val % 128; omega)

/-- The output array after the whole grid is the attention output. -/
theorem final (c : Dev nD) : (dats m 0 c).arrAt 5 cfg0.N = G m c := by
  refine (dats m 0 c).arrAt_eq_of_covers 5 _ (by decide +kernel) fun t hf y => ?_
  blk_simp
  rw [after0_5]
  obtain ⟨r, g, d, rfl⟩ := blk_onto y
  refine (block_apply m c t g r d).trans ((G_apply m c (pb t) (pq t r) (ph t) g d).symm.trans (congrArg (G m c) ?_))
  blk_ext [ix_5 t, pb, ph, pq]

end Cert.Proof.KI

end
-- ==== Proof.RPay.lean ====
/-
  The reference's body, at exact arithmetic: the same attention output of every batch row, query, head and
  component.
-/
module

public import proofs.«01_k».proof.Proof.Gen.ReferenceIdeal.Run
public import proofs.«01_k».proof.Proof.Gen.ReferenceIdeal.Read
public import proofs.«01_k».proof.Proof.Spec
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.R

open Cert.ReferenceIdeal Cert.ReferenceIdeal.Gen Cert.Proof.Attn
open Idealize.ShloMosaic Idealize.ShloMosaic.TcCoe Idealize.ShloMosaic.Tactic
open Idealize.SL Idealize.SL.RA Idealize.SL.BI

/-- The score's argument as the reference's body computes it. -/
def argR (x k : Vec Ideal S64x4096x128 .fp8e4m3) (qs ks : Vec Ideal S64x1x1 .f32) (n : Fin 64) (s t : Fin 4096) : EReal :=
  Ideal.div ((∑ c : Fin 128, x (ix3 n s c) * k (ix3 n t c)) * ((qs (ix3 n 0 0) * ks (ix3 n 0 0)) * Ideal.ofBits .f32 0x3DB504F3#32))
    (Ideal.ofBits .f32 0x42480000#32)

/-- The masked scores, -/
def scV (v0 v2 : Vec Ideal S64x4096x128 .fp8e4m3) (v5 v7 : Vec Ideal S64x1x1 .f32) : FVec Ideal S64x4096x4096 .f32 :=
  have v1 : FVec Ideal S64x4096x128 .fp8e4m3 := shapeCast S64x4096x128 v0 shapeCasts_S64x4096x128_S64x4096x128
  have v3 : FVec Ideal S64x4096x128 .fp8e4m3 := shapeCast S64x4096x128 v2 shapeCasts_S64x4096x128_S64x4096x128
  have cst : FVec Ideal S64x4096x4096 .f32 := constant S64x4096x4096 .f32 0x00000000#32
  have v4 : FVec Ideal S64x4096x4096 .f32 := matmul dot_S64x4096x128_S64x4096x128_S64x4096x4096_2_2_1_1_0_0 none v1 v3 cst
  have v6 : FVec Ideal S64x1x1 .f32 := shapeCast S64x1x1 v5 shapeCasts_S64x1x1_S64x1x1
  have v8 : FVec Ideal S64x1x1 .f32 := shapeCast S64x1x1 v7 shapeCasts_S64x1x1_S64x1x1
  have v9 : FVec Ideal S64x1x1 .f32 := mulf v6 v8
  have cst_11 : Ideal .f32 := Scalar.ofBits .f32 0x3DB504F3#32
  have v10 : FVec Ideal S64x1x1 .f32 := broadcast S64x1x1 cst_11
  have v11 : FVec Ideal S64x1x1 .f32 := mulf v9 v10
  have v12 : FVec Ideal S64x4096x4096 .f32 := broadcastTo S64x4096x4096 v11 broadcasts_S64x1x1_S64x4096x4096
  have v13 : FVec Ideal S64x4096x4096 .f32 := mulf v4 v12
  have cst_12 : Ideal .f32 := Scalar.ofBits .f32 0x42480000#32
  have v14 : FVec Ideal S64x4096x4096 .f32 := broadcast S64x4096x4096 cst_12
  have v15 : FVec Ideal S64x4096x4096 .f32 := divf v13 v14
  have v16 : FVec Ideal S64x4096x4096 .f32 := tanh v15
  have cst_13 : Ideal .f32 := Scalar.ofBits .f32 0x42480000#32
  have v17 : FVec Ideal S64x4096x4096 .f32 := broadcast S64x4096x4096 cst_13
  have v18 : FVec Ideal S64x4096x4096 .f32 := mulf v17 v16
  have v19 : IVec S1x4096x4096 32 := iota .tc S1x4096x4096 32 [1] iota_S1x4096x4096_d1_w32
  have v20 : IVec S1x4096x4096 32 := iota .tc S1x4096x4096 32 [2] iota_S1x4096x4096_d2_w32
  have v21 : IVec S1x4096x4096 1 := cmpi .sle v20 v19
  have cst_14 : Ideal .f32 := Scalar.ofBits .f32 0xFF800000#32
  have v22 : IVec S1x4096x4096 1 := shapeCast S1x4096x4096 v21 shapeCasts_S1x4096x4096_S1x4096x4096
  have v23 : IVec S64x4096x4096 1 := broadcastTo S64x4096x4096 v22 broadcasts_S1x4096x4096_S64x4096x4096
  have v24 : FVec Ideal S64x4096x4096 .f32 := broadcast S64x4096x4096 cst_14
  have v25 : FVec Ideal S64x4096x4096 .f32 := select v23 v18 v24
  v25

/-- their row maxima, -/
def mxV (v25 : FVec Ideal S64x4096x4096 .f32) : FVec Ideal S64x4096 .f32 :=
  maximumf (broadcast S64x4096 (Scalar.ofBits .f32 0xFF800000#32 : Ideal .f32) : FVec Ideal S64x4096 .f32)
    (multiReduction .maximumf [2] S64x4096 v25 0xFF800000#32 reduces_S64x4096x4096_S64x4096 (.inl rfl) rfl)

/-- the exponentials over them, -/
def exV (v25 : FVec Ideal S64x4096x4096 .f32) (v28 : FVec Ideal S64x4096 .f32) : FVec Ideal S64x4096x4096 .f32 :=
  have v29 : FVec Ideal S64x4096x1 .f32 := shapeCast S64x4096x1 v28 shapeCasts_S64x4096_S64x4096x1
  have v30 : FVec Ideal S64x4096x4096 .f32 := broadcastTo S64x4096x4096 v29 broadcasts_S64x4096x1_S64x4096x4096
  have v31 : FVec Ideal S64x4096x4096 .f32 := subf v25 v30
  have v32 : FVec Ideal S64x4096x4096 .f32 := exp v31
  v32

/-- their row sums, -/
def smV (v32 : FVec Ideal S64x4096x4096 .f32) : FVec Ideal S64x4096 .f32 :=
  have v33 : FVec Ideal S64x4096 .f32 := multiReduction .add [2] S64x4096 v32 0x00000000#32 reduces_S64x4096x4096_S64x4096 (.inl rfl) rfl
  v33

/-- and the scaled probabilities. -/
def prV (v32 : FVec Ideal S64x4096x4096 .f32) (v33 : FVec Ideal S64x4096 .f32) : FVec Ideal S64x4096x4096 .f32 :=
  have v34 : FVec Ideal S64x4096x1 .f32 := shapeCast S64x4096x1 v33 shapeCasts_S64x4096_S64x4096x1
  have v35 : FVec Ideal S64x4096x4096 .f32 := broadcastTo S64x4096x4096 v34 broadcasts_S64x4096x1_S64x4096x4096
  have v36 : FVec Ideal S64x4096x4096 .f32 := divf v32 v35
  have cst_18 : Ideal .f32 := Scalar.ofBits .f32 0x43800000#32
  have v37 : FVec Ideal S64x4096x4096 .f32 := broadcast S64x4096x4096 cst_18
  have v38 : FVec Ideal S64x4096x4096 .f32 := mulf v36 v37
  v38

theorem pay2_eq (x k : Vec Ideal S64x4096x128 .fp8e4m3) (qs ks : Vec Ideal S64x1x1 .f32) :
    k0_pay2 x k qs ks = prV (exV (scV x k qs ks) (mxV (scV x k qs ks))) (smV (exV (scV x k qs ks) (mxV (scV x k qs ks)))) := by
  unfold k0_pay2 prV smV exV mxV scV
  rfl

theorem prV_apply (v32 : FVec Ideal S64x4096x4096 .f32) (v33 : FVec Ideal S64x4096 .f32) (n : Fin 64) (s t : Fin 4096) :
    prV v32 v33 (ix3 n s t) = Ideal.div (v32 (ix3 n s t)) (v33 (ix2 n s)) * Ideal.ofBits .f32 0x43800000#32 := by
  pointwise [prV]

theorem exV_apply (v25 : FVec Ideal S64x4096x4096 .f32) (v28 : FVec Ideal S64x4096 .f32) (n : Fin 64) (s t : Fin 4096) :
    exV v25 v28 (ix3 n s t) = Ideal.exp (v25 (ix3 n s t) - v28 (ix2 n s)) := by
  pointwise [exV]

/-- Inserting coordinate `u` at the reduced axis. -/
theorem lift_apply (h : S64x4096x4096.Reduces [2] S64x4096) (n : Fin 64) (s u : Fin 4096) :
    h.lift (ix2 n s) u = ix3 n s u := by
  funext a
  match a with
  | ⟨0, _⟩ => rfl
  | ⟨1, _⟩ => rfl
  | ⟨2, _⟩ => rfl

/-- A maximum over one axis, as a fold over that axis of the elements. -/
theorem red_max_gen {s t : Shape} {a : Fin s.rank} (src : FVec Ideal s .f32) (acc : BitVec 32)
    (h : s.Reduces [a] t) (hφ : FKind.Formats .f32) (hacc : acc = FKind.maximumf.neutral .f32 hφ) (j : t.Idx)
    (N : ℕ) (hN : s.size a = N) (f : Fin N → EReal) (hf : ∀ u : Fin (s.size a), src (h.lift j u) = f (u.cast hN)) :
    multiReduction .maximumf [a] t src acc h hφ hacc j
      = (Finset.univ : Finset (Fin N)).fold max (Ideal.ofBits .f32 acc) f := by
  subst hN
  rw [Ideal.multiReduction_maximumf_single src acc h hφ hacc j]
  exact congrArg (fun g => (Finset.univ : Finset (Fin (s.size a))).fold max (Ideal.ofBits .f32 acc) g) (funext hf)

/-- A row's maximum, as a fold over its keys. -/
theorem red_max (v25 : FVec Ideal S64x4096x4096 .f32) (h : S64x4096x4096.Reduces [2] S64x4096) (hφ : FKind.Formats .f32)
    (hacc : 0xFF800000#32 = FKind.maximumf.neutral .f32 hφ) (n : Fin 64) (s : Fin 4096) :
    multiReduction .maximumf [2] S64x4096 v25 0xFF800000#32 h hφ hacc (ix2 n s)
      = (Finset.univ : Finset (Fin 4096)).fold max (Ideal.ofBits .f32 0xFF800000#32) (fun u => v25 (ix3 n s u)) :=
  red_max_gen v25 _ h hφ hacc (ix2 n s) 4096 rfl _ fun u => congrArg v25 (lift_apply h n s u)

/-- The maximum with a constant, at an index. -/
theorem max_const {s : Shape} (b : BitVec 32) (x : FVec Ideal s .f32) (j : s.Idx) (z : EReal) (hz : x j = z) :
    maximumf (broadcast s (Scalar.ofBits .f32 b : Ideal .f32) : FVec Ideal s .f32) x j = max (Ideal.ofBits .f32 b) z := by
  subst hz; rfl

/-- The row maximum at an index. -/
theorem mxV_apply (v25 : FVec Ideal S64x4096x4096 .f32) (n : Fin 64) (s : Fin 4096) (f : Fin 4096 → EReal)
    (hf : (fun u => v25 (ix3 n s u)) = f) :
    mxV v25 (ix2 n s) = max (Ideal.ofBits .f32 0xFF800000#32)
      ((Finset.univ : Finset (Fin 4096)).fold max (Ideal.ofBits .f32 0xFF800000#32) f) := by
  subst hf
  exact max_const _ _ _ _ (red_max v25 _ _ _ n s)

/-- A masked score at an index. -/
theorem scV_apply (x k : Vec Ideal S64x4096x128 .fp8e4m3) (qs ks : Vec Ideal S64x1x1 .f32) (n : Fin 64) (s t : Fin 4096) :
    scV x k qs ks (ix3 n s t) = sc s.val (argR x k qs ks n s) t := by
  pointwise [scV]
  rw [WordCmp.cmpi_sle_ofNat (by have := t.isLt; omega) (by have := s.isLt; omega), WordCmp.select_decide]
  rfl

/-- A row sum at an index. -/
theorem smV_apply (v32 : FVec Ideal S64x4096x4096 .f32) (n : Fin 64) (s : Fin 4096) :
    smV v32 (ix2 n s) = ∑ u : Fin 4096, v32 (ix3 n s u) := by
  pointwise [smV]

/-- An exponential at an index. -/
theorem exps_apply (x k : Vec Ideal S64x4096x128 .fp8e4m3) (qs ks : Vec Ideal S64x1x1 .f32) (n : Fin 64) (s t : Fin 4096) :
    exV (scV x k qs ks) (mxV (scV x k qs ks)) (ix3 n s t) = ex s.val (argR x k qs ks n s) t := by
  rw [exV_apply, scV_apply, mxV_apply _ n s (sc s.val (argR x k qs ks n s)) (funext fun u => scV_apply x k qs ks n s u)]
  unfold ex mx
  rfl

/-- A scaled probability at an index. -/
theorem pay2_apply (x k : Vec Ideal S64x4096x128 .fp8e4m3) (qs ks : Vec Ideal S64x1x1 .f32) (n : Fin 64) (s t : Fin 4096) :
    k0_pay2 x k qs ks (ix3 n s t)
      = Ideal.div (ex s.val (argR x k qs ks n s) t) (∑ u, ex s.val (argR x k qs ks n s) u) * Ideal.ofBits .f32 0x43800000#32 := by
  rw [pay2_eq, prV_apply, smV_apply, exps_apply]
  exact congrArg (fun z => Ideal.div (ex s.val (argR x k qs ks n s) t) z * Ideal.ofBits .f32 0x43800000#32)
    (Finset.sum_congr rfl fun u _ => exps_apply x k qs ks n s u)

/-- The output at an index: the clipped probability codes times the values, rescaled. -/
theorem pay1_apply (p : FVec Ideal S64x4096x4096 .f32) (v : Vec Ideal S64x4096x128 .fp8e4m3) (vs : Vec Ideal S64x1x1 .f32)
    (n : Fin 64) (s : Fin 4096) (d : Fin 128) :
    k0_pay1 p v vs (ix3 n s d) = (∑ t, clip (p (ix3 n s t)) * v (ix3 n t d)) * (Ideal.ofBits .f32 0x3B800000#32 * vs (ix3 n 0 0)) := by
  pointwise [k0_pay1, clip]

/-- The reference's body at an index. -/
theorem body_apply (x k v : Vec Ideal S64x4096x128 .fp8e4m3) (qs ks vs : Vec Ideal S64x1x1 .f32) (n : Fin 64) (s : Fin 4096) (d : Fin 128) :
    k0_pay1 (k0_pay2 x k qs ks) v vs (ix3 n s d)
      = (∑ t, pR s.val (argR x k qs ks n s) t * v (ix3 n t d)) * (Ideal.ofBits .f32 0x3B800000#32 * vs (ix3 n 0 0)) := by
  rw [pay1_apply]
  refine congrArg (· * _) (Finset.sum_congr rfl fun t _ => congrArg (· * v (ix3 n t d)) ?_)
  rw [pay2_apply]
  rfl

end Cert.Proof.R

end
-- ==== Proof.RValue.lean ====
/-
  The reference's result array, at exact arithmetic: the same attention output of every batch row, query, head and
  component.
-/
module

public import proofs.«01_k».proof.Proof.Gen.ReferenceIdeal.Run
public import proofs.«01_k».proof.Proof.Gen.ReferenceIdeal.Read
public import proofs.«01_k».proof.Proof.RPay
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.R

open Cert.ReferenceIdeal Cert.ReferenceIdeal.Gen Cert.Proof.Attn
open Idealize.ShloMosaic Idealize.ShloMosaic.TcCoe Idealize.ShloMosaic.Tactic
open Idealize.SL Idealize.SL.RA Idealize.SL.BI

variable (m : ∀ l : Loc nD τ sig, Buf (Elt Ideal) l)

/-- The six argument arrays on a device. -/
abbrev a0 (c : Dev nD) : (⟨3, ![8, 4096, 1024]⟩ : Shape).Idx → EReal := m (c, main_arg0)
abbrev a1 (c : Dev nD) : (⟨1, ![8]⟩ : Shape).Idx → EReal := m (c, main_arg1)
abbrev a2 (c : Dev nD) : (⟨3, ![8, 4096, 256]⟩ : Shape).Idx → EReal := m (c, main_arg2)
abbrev a3 (c : Dev nD) : (⟨1, ![2]⟩ : Shape).Idx → EReal := m (c, main_arg3)
abbrev a4 (c : Dev nD) : (⟨3, ![8, 4096, 256]⟩ : Shape).Idx → EReal := m (c, main_arg4)
abbrev a5 (c : Dev nD) : (⟨1, ![2]⟩ : Shape).Idx → EReal := m (c, main_arg5)

/-- Row `8 b + 4 h + g` of the stacked heads: batch row `b`, key head `h`, group member `g`. -/
abbrev hd (b : Fin 8) (h : Fin 2) (g : Fin 4) : Fin 64 :=
  ⟨8 * b.val + 4 * h.val + g.val, by have := b.isLt; have := h.isLt; have := g.isLt; omega⟩

/-- The stacked queries the region reads. -/
theorem v2_apply (c : Dev nD) (b : Fin 8) (s : Fin 4096) (h : Fin 2) (g : Fin 4) (x : Fin 128) :
    V m c main_v2 (ix3 (hd b h g) s x) = a0 m c (ix3 b s (qcol h g x)) := by
  unfold V
  after_reads_at
  have := h.isLt; have := g.isLt
  refine congrArg₂ (fun p q => a0 m c (ix3 p s q)) (Fin.ext ?_) (Fin.ext ?_)
  · show (8 * b.val + 4 * h.val + g.val) / 8 = b.val; omega
  · show (8 * b.val + 4 * h.val + g.val) % 8 * 128 + x.val = 512 * h.val + 128 * g.val + x.val; omega

/-- Their scales. -/
theorem v5_apply (c : Dev nD) (b : Fin 8) (h : Fin 2) (g : Fin 4) :
    V m c main_v5 (ix3 (hd b h g) 0 0) = a1 m c (ix1 (qhead h g)) := by
  unfold V
  after_reads_at
  have := h.isLt; have := g.isLt
  refine congrArg (fun p => a1 m c (ix1 p)) (Fin.ext ?_)
  show (8 * b.val + 4 * h.val + g.val) % 8 = 4 * h.val + g.val; omega

/-- The stacked keys. -/
theorem v9_apply (c : Dev nD) (b : Fin 8) (s : Fin 4096) (h : Fin 2) (g : Fin 4) (x : Fin 128) :
    V m c main_v9 (ix3 (hd b h g) s x) = a2 m c (ix3 b s (kcol h x)) := by
  unfold V
  after_reads_at
  have := h.isLt; have := g.isLt
  refine congrArg₂ (fun p q => a2 m c (ix3 p s q)) (Fin.ext ?_) (Fin.ext ?_)
  · show (8 * b.val + 4 * h.val + g.val) / 8 = b.val; omega
  · show (8 * b.val + 4 * h.val + g.val) / 4 % 2 * 128 + x.val = 128 * h.val + x.val; omega

/-- Their scales. -/
theorem v12_apply (c : Dev nD) (b : Fin 8) (h : Fin 2) (g : Fin 4) :
    V m c main_v12 (ix3 (hd b h g) 0 0) = a3 m c (ix1 h) := by
  unfold V
  after_reads_at
  have := h.isLt; have := g.isLt
  refine congrArg (fun p => a3 m c (ix1 p)) (Fin.ext ?_)
  show (8 * b.val + 4 * h.val + g.val) / 4 % 2 = h.val; omega

/-- The stacked values. -/
theorem v16_apply (c : Dev nD) (b : Fin 8) (s : Fin 4096) (h : Fin 2) (g : Fin 4) (x : Fin 128) :
    V m c main_v16 (ix3 (hd b h g) s x) = a4 m c (ix3 b s (kcol h x)) := by
  unfold V
  after_reads_at
  have := h.isLt; have := g.isLt
  refine congrArg₂ (fun p q => a4 m c (ix3 p s q)) (Fin.ext ?_) (Fin.ext ?_)
  · show (8 * b.val + 4 * h.val + g.val) / 8 = b.val; omega
  · show (8 * b.val + 4 * h.val + g.val) / 4 % 2 * 128 + x.val = 128 * h.val + x.val; omega

/-- Their scales. -/
theorem v19_apply (c : Dev nD) (b : Fin 8) (h : Fin 2) (g : Fin 4) :
    V m c main_v19 (ix3 (hd b h g) 0 0) = a5 m c (ix1 h) := by
  unfold V
  after_reads_at
  have := h.isLt; have := g.isLt
  refine congrArg (fun p => a5 m c (ix1 p)) (Fin.ext ?_)
  show (8 * b.val + 4 * h.val + g.val) / 4 % 2 = h.val; omega

/-- Dividing by 50 commutes with multiplying. -/
theorem div50 (x y : EReal) : Ideal.div (x * y) (Ideal.ofBits .f32 0x42480000#32) = x * Ideal.div y (Ideal.ofBits .f32 0x42480000#32) := by
  rw [c50, Ideal.div_coe (by norm_num), Ideal.div_coe (by norm_num), mul_assoc]

/-- The reference's score argument is the specification's. -/
theorem argR_eq (c : Dev nD) (b : Fin 8) (s : Fin 4096) (h : Fin 2) (g : Fin 4) :
    argR (V m c main_v2) (V m c main_v9) (V m c main_v5) (V m c main_v12) (hd b h g) s
      = score (a0 m c) (a1 m c) (a2 m c) (a3 m c) b s h g := by
  funext t
  unfold argR score
  rw [div50, v5_apply, v12_apply]
  refine congrArg (· * _) (Finset.sum_congr rfl fun x _ => ?_)
  rw [v2_apply, v9_apply]

/-- The region's body over the arrays it reads is the attention output. -/
theorem body_attn (c : Dev nD) (b : Fin 8) (s : Fin 4096) (h : Fin 2) (g : Fin 4) (d : Fin 128) :
    k0_pay1 (k0_pay2 (V m c main_v2) (V m c main_v9) (V m c main_v5) (V m c main_v12)) (V m c main_v16) (V m c main_v19) (ix3 (hd b h g) s d)
      = attn (a0 m c) (a1 m c) (a2 m c) (a3 m c) (a4 m c) (a5 m c) b s h g d := by
  rw [body_apply, argR_eq, v19_apply]
  unfold attn
  refine congrArg (· * _) (Finset.sum_congr rfl fun t _ => ?_)
  rw [pK_eq_pR s.val s.isLt, v16_apply]

theorem ix_0 : ∀ t : Fin cfg0.N, win0_0.index t = ![0, 0, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 0, 0] := (by decide +kernel : ∀ t : Fin grid0.N, _)

/-- The region has one point; each window's block is its whole array. -/
theorem rd0 (c : Dev nD) (t : Fin cfg0.N) : iblk m c 0 t = V m c main_v2 := by funext x; blk_ext [iblk, ix_0 t]
theorem rd1 (c : Dev nD) (t : Fin cfg0.N) : iblk m c 1 t = V m c main_v5 := by funext x; blk_ext [iblk, ix_1 t]
theorem rd2 (c : Dev nD) (t : Fin cfg0.N) : iblk m c 2 t = V m c main_v9 := by funext x; blk_ext [iblk, ix_2 t]
theorem rd3 (c : Dev nD) (t : Fin cfg0.N) : iblk m c 3 t = V m c main_v12 := by funext x; blk_ext [iblk, ix_3 t]
theorem rd4 (c : Dev nD) (t : Fin cfg0.N) : iblk m c 4 t = V m c main_v16 := by funext x; blk_ext [iblk, ix_4 t]
theorem rd5 (c : Dev nD) (t : Fin cfg0.N) : iblk m c 5 t = V m c main_v19 := by funext x; blk_ext [iblk, ix_5 t]

/-- The region's output array. -/
theorem region (c : Dev nD) : Value.reg_main_v20 m c
    = k0_pay1 (k0_pay2 (V m c main_v2) (V m c main_v9) (V m c main_v5) (V m c main_v12)) (V m c main_v16) (V m c main_v19) := by
  unfold Value.reg_main_v20
  refine (dats m 0 c).arrAt_eq_of_covers 6 _ (by decide +kernel) fun t hf y => ?_
  blk_simp
  rw [after0_6]
  frame_out
  rw [rd0, rd1, rd2, rd3, rd4, rd5]
  congr 1
  blk_ext [ix_6 t]

/-- The region's array regrouped into batch rows and columns, at an index. -/
theorem regroup (z : (⟨S64x4096x128, .bf16⟩ : BufTy).Contents (Elt Ideal)) (b : Fin 8) (s : Fin 4096) (h : Fin 2) (g : Fin 4) (d : Fin 128) :
    Read.val_main_v23 (F := Ideal) z (ix3 b s (qcol h g d)) = z (ix3 (hd b h g) s d) := by
  rw [Read.val_main_v23_apply, Read.val_main_v22_apply]
  have := b.isLt; have := s.isLt; have := h.isLt; have := g.isLt; have := d.isLt
  have e : Read.idx_main_v22 (Read.idx_main_v23 (ix3 b s (qcol h g d))) = ix4 b (qhead h g) s d := by
    funext j
    match j with
    | ⟨0, _⟩ => exact Fin.ext (by show ((b.val * 4096 + s.val) * 1024 + (512 * h.val + 128 * g.val + d.val)) / 4194304 = b.val; omega)
    | ⟨1, _⟩ => exact Fin.ext (by show ((b.val * 4096 + s.val) * 1024 + (512 * h.val + 128 * g.val + d.val)) / 128 % 8 = 4 * h.val + g.val; omega)
    | ⟨2, _⟩ => exact Fin.ext (by show ((b.val * 4096 + s.val) * 1024 + (512 * h.val + 128 * g.val + d.val)) / 1024 % 4096 = s.val; omega)
    | ⟨3, _⟩ => exact Fin.ext (by show ((b.val * 4096 + s.val) * 1024 + (512 * h.val + 128 * g.val + d.val)) % 128 = d.val; omega)
  rw [e, Read.val_main_v21_apply]
  refine congrArg z (funext fun j => ?_)
  match j with
  | ⟨0, _⟩ => exact Fin.ext (by show (((b.val * 8 + (4 * h.val + g.val)) * 4096 + s.val) * 128 + d.val) / 524288 = 8 * b.val + 4 * h.val + g.val; omega)
  | ⟨1, _⟩ => exact Fin.ext (by show (((b.val * 8 + (4 * h.val + g.val)) * 4096 + s.val) * 128 + d.val) / 128 % 4096 = s.val; omega)
  | ⟨2, _⟩ => exact Fin.ext (by show (((b.val * 8 + (4 * h.val + g.val)) * 4096 + s.val) * 128 + d.val) % 128 = d.val; omega)

/-- The result at an index. -/
theorem result_apply (c : Dev nD) (b : Fin 8) (s : Fin 4096) (h : Fin 2) (g : Fin 4) (d : Fin 128) :
    Read.val_main_v23 (F := Ideal) (Value.reg_main_v20 m c) (ix3 b s (qcol h g d))
      = attn (a0 m c) (a1 m c) (a2 m c) (a3 m c) (a4 m c) (a5 m c) b s h g d := by
  rw [regroup, region, body_attn]

end Cert.Proof.R

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.KIRun
public import proofs.«01_k».proof.Proof.KIValue
public import proofs.«01_k».proof.Proof.RValue
public import Idealize.ShloMosaic.Adequacy
public import Idealize.ShloMosaic.Init

@[expose] public section

noncomputable section

namespace Cert.Proof

open Idealize.ShloMosaic Idealize.SL.Sem

/-- The ideal form's one rewrite, the kernel's constant `50 / ln 2`, follows its rule. -/
theorem preserves : Cert.preserves_Kernel_KernelIdeal :=
  IdealRules.named_const.statement Cert.KernelIdeal.κ "cap_log2e" .f32 0x429044FE#32 ((50 * (Real.log 2)⁻¹ : ℝ) : EReal) rfl

/-- The kernel's result array, the attention output of the arguments, is the reference's. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : R.a0 m' c = KI.a0 m c) (h1 : R.a1 m' c = KI.a1 m c) (h2 : R.a2 m' c = KI.a2 m c)
    (h3 : R.a3 m' c = KI.a3 m c) (h4 : R.a4 m' c = KI.a4 m c) (h5 : R.a5 m' c = KI.a5 m c) :
    Cert.ReferenceIdeal.Read.val_main_v23 (F := Ideal) (Cert.ReferenceIdeal.Value.reg_main_v20 m' c) = KI.G m c := by
  funext i
  obtain ⟨b, s, q, rfl⟩ : ∃ (b : Fin 8) (s : Fin 4096) (q : Fin 1024), i = ix3 b s q :=
    ⟨i 0, i 1, i 2, by funext j; match j with | ⟨0, _⟩ => rfl | ⟨1, _⟩ => rfl | ⟨2, _⟩ => rfl⟩
  obtain ⟨h, g, d, rfl⟩ := Attn.qcol_onto q
  rw [R.result_apply, KI.G_apply, h0, h1, h2, h3, h4, h5]

/-- At exact arithmetic the kernel and the reference end with equal results, from memories agreeing on the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => KI.G m c, ?_, ?_⟩
  · refine θ_run_mono (θ_run_and (KI.run_main m g) (KI.unchanged m g)) fun r hr c => ⟨?_, hr.2 c⟩
    exact (hr.1.out_eq c 5).trans (KI.final m c)
  · refine θ_run_mono (Cert.ReferenceIdeal.Value.run m' g') fun r hr c => ⟨(hr c).1.trans ?_, (hr c).2⟩
    obtain ⟨h0, h1, h2, h3, h4, h5⟩ := hagree c
    exact values m m' c h0 h1 h2 h3 h4 h5

/-- Everything claimed. -/
theorem claim : Cert.Claim := ⟨Cert.Kernel.Gen.facts, Cert.KernelIdeal.Gen.facts, Cert.ReferenceIdeal.Gen.facts,
  fun m ρ _ => Cert.Proof.K.frame m ρ, fun m ρ _ => Cert.Proof.KI.frame m ρ,
  fun m ρ _ => Cert.ReferenceIdeal.Gen.frame m ρ, preserves, algebraic⟩

end Cert.Proof

end
